-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 128]⟩ : Shape).Idx, (Layout.block ⟨2, ![8192, 128]⟩ ⟨2, ![8192, 4096]⟩ 1 32 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![8192, 128]⟩ : Shape).Idx → _) i = 1#1 → r.2.mem ((c.tc : Thread Cert.KernelIdeal.nD Cert.KernelIdeal.τ).loc Cert.KernelIdeal.main_v1) i = (Layout.block ⟨2, ![8192, 128]⟩ ⟨2, ![8192, 4096]⟩ 1 32 c v0 : (⟨2, ![8192, 128]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![8192, 4096]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_on_unclipped (hKernelIdeal := hKernelIdeal) (hReferenceIdeal := hReferenceIdeal) (hOn_unclipped := hOn_unclipped)
-- ==== On_unclipped.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  main_v3
-- ==== Kernel.lean ====
abbrev S256x8192 : Shape := ⟨2, ![256, 8192]⟩
abbrev S8192x4096 : Shape := ⟨2, ![8192, 4096]⟩
abbrev S8192x128 : Shape := ⟨2, ![8192, 128]⟩
abbrev S2x8192x512 : Shape := ⟨3, ![2, 8192, 512]⟩
abbrev S8x256x512 : Shape := ⟨3, ![8, 256, 512]⟩
abbrev S2 : Shape := ⟨1, ![2]⟩
abbrev S32 : Shape := ⟨1, ![32]⟩
abbrev S_ : Shape := ⟨0, ![]⟩
abbrev S1 : Shape := ⟨1, ![1]⟩
abbrev S1x8192x512 : Shape := ⟨3, ![1, 8192, 512]⟩
abbrev S8192x512 : Shape := ⟨2, ![8192, 512]⟩
abbrev S256x512 : Shape := ⟨2, ![256, 512]⟩
abbrev S1x256x512 : Shape := ⟨3, ![1, 256, 512]⟩
abbrev S1x256x128 : Shape := ⟨3, ![1, 256, 128]⟩
abbrev S256x128 : Shape := ⟨2, ![256, 128]⟩

abbrev nBuf : Space → Nat
  | .hbm => 3
  | .vmem => 4
  | .smem => 0
  | _ => 0

abbrev bufTy : (tb : Table) → Fin (tcTables nBuf tb) → BufTy
  | .hbm, ⟨0, _⟩ => ⟨S256x8192, .f32⟩
  | .hbm, ⟨1, _⟩ => ⟨S8192x4096, .f32⟩
  | .hbm, ⟨2, _⟩ => ⟨S8192x128, .f32⟩
  | .local _ .vmem, ⟨0, _⟩ => ⟨S256x8192, .f32⟩
  | .local _ .vmem, ⟨1, _⟩ => ⟨S8192x128, .f32⟩
  | .local _ .vmem, ⟨2, _⟩ => ⟨S2x8192x512, .f32⟩
  | .local _ .vmem, ⟨3, _⟩ => ⟨S8x256x512, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c0_i32_5 : BitVec 32 := 0#32
  let c32_i32_6 : BitVec 32 := 32#32
  let v21 : BitVec 32 := Scalar.addi c0_i32_5 c32_i32_6
  let c1_i32_7 : BitVec 32 := 1#32
  ⟨c0_i32_5, v21, c1_i32_7⟩
def k0_dev1 (k0_t1 : Fin k0_t1_loop.trips) : Nat :=
  let c0_i32_58 : BitVec 32 := 0#32
  let c0_i32_5 : BitVec 32 := 0#32
  let c1_i32_7 : BitVec 32 := 1#32
  let arg8 : BitVec 32 := Scf.iv c0_i32_5 c1_i32_7 k0_t1
  let c1_i32_57 : BitVec 32 := 1#32
  let v127 : BitVec 32 := Scalar.muli arg8 c1_i32_57
  let v128 : BitVec 32 := Scalar.addi c0_i32_58 v127
  v128.toNat
def k0_off1 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_10 : BitVec 32 := 0#32
  let v22 : BitVec 32 := Scalar.addi v19 c0_i32_10
  let c8_i32 : BitVec 32 := 8#32
  let v23 : BitVec 32 := Scalar.remsi v22 c8_i32
  let c512_i32 : BitVec 32 := 512#32
  let v24 : BitVec 32 := Scalar.muli v23 c512_i32
  ![0, v24.toNat]
@[reducible] def k0_t2_loop : Scf.Loop 32 :=
  let c0_i32_16 : BitVec 32 := 0#32
  let c8_i32_17 : BitVec 32 := 8#32
  let v30 : BitVec 32 := Scalar.addi c0_i32_16 c8_i32_17
  let c1_i32_18 : BitVec 32 := 1#32
  ⟨c0_i32_16, v30, c1_i32_18⟩
def k0_off2 (k0_t2 : Fin k0_t2_loop.trips) : Fin 1 → Nat :=
  let c0_i32_16 : BitVec 32 := 0#32
  let c1_i32_18 : BitVec 32 := 1#32
  let arg8 : BitVec 32 := Scf.iv c0_i32_16 c1_i32_18 k0_t2
  let c2_i32_56 : BitVec 32 := 2#32
  let v127 : BitVec 32 := Scalar.remsi arg8 c2_i32_56
  ![v127.toNat]
def k0_off3 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let c2_i32_56 : BitVec 32 := 2#32
  let v127 : BitVec 32 := Scalar.remsi arg8 c2_i32_56
  let c0_i32_59 : BitVec 32 := 0#32
  let c0_i32_60 : BitVec 32 := 0#32
  ![v127.toNat, 0, 0]
def k0_off4 (d0 : Dev nD) (k0_t2 : Fin k0_t2_loop.trips) : Fin 2 → Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v128 : BitVec 32 := Scalar.addi v19 arg8
  let c8_i32_57 : BitVec 32 := 8#32
  let v129 : BitVec 32 := Scalar.remsi v128 c8_i32_57
  let c512_i32_58 : BitVec 32 := 512#32
  let v130 : BitVec 32 := Scalar.muli v129 c512_i32_58
  ![0, v130.toNat]
def k0_cond1 (k0_t2 : Fin k0_t2_loop.trips) : BitVec 1 :=
  let c0_i32_16 : BitVec 32 := 0#32
  let c1_i32_18 : BitVec 32 := 1#32
  let arg8 : BitVec 32 := Scf.iv c0_i32_16 c1_i32_18 k0_t2
  let c1_i32_62 : BitVec 32 := 1#32
  let v136 : BitVec 32 := Scalar.addi arg8 c1_i32_62
  let c8_i32_63 : BitVec 32 := 8#32
  let v137 : BitVec 1 := Scalar.cmpi .slt v136 c8_i32_63
  let v138 : BitVec 32 := Scalar.extui v137
  let c0_i32_64 : BitVec 32 := 0#32
  let v139 : BitVec 1 := Scalar.cmpi .ne v138 c0_i32_64
  v139

def k0_off5 (k0_t2 : Fin k0_t2_loop.trips) : Fin 1 → Nat :=
  let c1_i32_88 : BitVec 32 := 1#32
  let c0_i32_16 : BitVec 32 := 0#32
  let c1_i32_18 : BitVec 32 := 1#32
  let arg8 : BitVec 32 := Scf.iv c0_i32_16 c1_i32_18 k0_t2
  let c2_i32_56 : BitVec 32 := 2#32
  let v127 : BitVec 32 := Scalar.remsi arg8 c2_i32_56
  let v187 : BitVec 32 := Scalar.subi c1_i32_88 v127
  ![v187.toNat]
def k0_off6 (k0_t2 : Fin k0_t2_loop.trips) : Fin 3 → Nat :=
  let c1_i32_88 : BitVec 32 := 1#32
  let c0_i32_16 : BitVec 32 := 0#32
  let c1_i32_18 : BitVec 32 := 1#32
  let arg8 : BitVec 32 := Scf.iv c0_i32_16 c1_i32_18 k0_t2
  let c2_i32_56 : BitVec 32 := 2#32
  let v127 : BitVec 32 := Scalar.remsi arg8 c2_i32_56
  let v187 : BitVec 32 := Scalar.subi c1_i32_88 v127
  let c0_i32_91 : BitVec 32 := 0#32
  let c0_i32_92 : BitVec 32 := 0#32
  ![v187.toNat, 0, 0]
def k0_off7 (d0 : Dev nD) (k0_t2 : Fin k0_t2_loop.trips) : Fin 2 → Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let c1_i32_87 : BitVec 32 := 1#32
  let v186 : BitVec 32 := Scalar.addi arg8 c1_i32_87
  let v188 : BitVec 32 := Scalar.addi v19 v186
  let c8_i32_89 : BitVec 32 := 8#32
  let v189 : BitVec 32 := Scalar.remsi v188 c8_i32_89
  let c512_i32_90 : BitVec 32 := 512#32
  let v190 : BitVec 32 := Scalar.muli v189 c512_i32_90
  ![0, v190.toNat]
def k0_off8 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let c2_i32_56 : BitVec 32 := 2#32
  let v127 : BitVec 32 := Scalar.remsi arg8 c2_i32_56
  let v142 : Index := Scalar.indexCast v127
  let c0_66 : Index := 0#32
  let c0_67 : Index := 0#32
  ![v142.toNat, 0, 0]
def k0_off9 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let v148 : Index := Scalar.indexCast arg8
  let c0_68 : Index := 0#32
  let c0_69 : Index := 0#32
  ![v148.toNat, 0, 0]
def k0_cond2 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_71 : BitVec 32 := 4#32
  let v154 : BitVec 32 := Scalar.muli v153 c4_i32_71
  let c0_i32_72 : BitVec 32 := 0#32
  let v155 : BitVec 32 := Scalar.addi v154 c0_i32_72
  let v156 : BitVec 1 := Scalar.cmpi .eq v155 v2
  let v157 : BitVec 32 := Scalar.extui v156
  let c0_i32_73 : BitVec 32 := 0#32
  let v158 : BitVec 1 := Scalar.cmpi .ne v157 c0_i32_73
  v158

def k0_off10 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let v186 : Index := Scalar.indexCast arg8
  let c0_87 : Index := 0#32
  let c0_88 : Index := 0#32
  ![v186.toNat, 0, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v189 : BitVec 32 := Scalar.muli v2 c256_i32
  let v190 : Index := Scalar.indexCast v189
  let c0_89 : Index := 0#32
  ![v190.toNat, 0]
def k0_cond3 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_71 : BitVec 32 := 4#32
  let v154 : BitVec 32 := Scalar.muli v153 c4_i32_71
  let c0_i32_72 : BitVec 32 := 0#32
  let v155 : BitVec 32 := Scalar.addi v154 c0_i32_72
  let v159 : BitVec 1 := Scalar.cmpi .ne v155 v2
  let v160 : BitVec 32 := Scalar.extui v159
  let c0_i32_74 : BitVec 32 := 0#32
  let v161 : BitVec 1 := Scalar.cmpi .ne v160 c0_i32_74
  v161

def k0_off12 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_71 : BitVec 32 := 4#32
  let v154 : BitVec 32 := Scalar.muli v153 c4_i32_71
  let c0_i32_72 : BitVec 32 := 0#32
  let v155 : BitVec 32 := Scalar.addi v154 c0_i32_72
  ![v155.toNat]
def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v186 : BitVec 32 := Scalar.muli v2 c256_i32
  let c0_i32_89 : BitVec 32 := 0#32
  ![v186.toNat, 0]
def k0_off15 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let c0_i32_90 : BitVec 32 := 0#32
  let c0_i32_91 : BitVec 32 := 0#32
  ![arg8.toNat, 0, 0]
def k0_dev2 (d0 : Dev nD) (k0_t2 : Fin k0_t2_loop.trips) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_71 : BitVec 32 := 4#32
  let v154 : BitVec 32 := Scalar.muli v153 c4_i32_71
  let c0_i32_72 : BitVec 32 := 0#32
  let v155 : BitVec 32 := Scalar.addi v154 c0_i32_72
  let c1_i32_87 : BitVec 32 := 1#32
  let v187 : BitVec 32 := Scalar.muli v155 c1_i32_87
  let v188 : BitVec 32 := Scalar.addi c0_i32_88 v187
  v188.toNat
def k0_cond4 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_75 : BitVec 32 := 4#32
  let v162 : BitVec 32 := Scalar.muli v153 c4_i32_75
  let c1_i32_76 : BitVec 32 := 1#32
  let v163 : BitVec 32 := Scalar.addi v162 c1_i32_76
  let v164 : BitVec 1 := Scalar.cmpi .eq v163 v2
  let v165 : BitVec 32 := Scalar.extui v164
  let c0_i32_77 : BitVec 32 := 0#32
  let v166 : BitVec 1 := Scalar.cmpi .ne v165 c0_i32_77
  v166

def k0_off16 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let v186 : Index := Scalar.indexCast arg8
  let c0_87 : Index := 0#32
  let c128 : Index := 128#32
  ![v186.toNat, 0, 128]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v189 : BitVec 32 := Scalar.muli v2 c256_i32
  let v190 : Index := Scalar.indexCast v189
  let c0_88 : Index := 0#32
  ![v190.toNat, 0]
def k0_cond5 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_75 : BitVec 32 := 4#32
  let v162 : BitVec 32 := Scalar.muli v153 c4_i32_75
  let c1_i32_76 : BitVec 32 := 1#32
  let v163 : BitVec 32 := Scalar.addi v162 c1_i32_76
  let v167 : BitVec 1 := Scalar.cmpi .ne v163 v2
  let v168 : BitVec 32 := Scalar.extui v167
  let c0_i32_78 : BitVec 32 := 0#32
  let v169 : BitVec 1 := Scalar.cmpi .ne v168 c0_i32_78
  v169

def k0_off18 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_75 : BitVec 32 := 4#32
  let v162 : BitVec 32 := Scalar.muli v153 c4_i32_75
  let c1_i32_76 : BitVec 32 := 1#32
  let v163 : BitVec 32 := Scalar.addi v162 c1_i32_76
  ![v163.toNat]
def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v186 : BitVec 32 := Scalar.muli v2 c256_i32
  let c0_i32_89 : BitVec 32 := 0#32
  ![v186.toNat, 0]
def k0_off21 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let c0_i32_90 : BitVec 32 := 0#32
  let c128_i32 : BitVec 32 := 128#32
  ![arg8.toNat, 0, 128]
def k0_dev3 (d0 : Dev nD) (k0_t2 : Fin k0_t2_loop.trips) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_75 : BitVec 32 := 4#32
  let v162 : BitVec 32 := Scalar.muli v153 c4_i32_75
  let c1_i32_76 : BitVec 32 := 1#32
  let v163 : BitVec 32 := Scalar.addi v162 c1_i32_76
  let c1_i32_87 : BitVec 32 := 1#32
  let v187 : BitVec 32 := Scalar.muli v163 c1_i32_87
  let v188 : BitVec 32 := Scalar.addi c0_i32_88 v187
  v188.toNat
def k0_cond6 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_79 : BitVec 32 := 4#32
  let v170 : BitVec 32 := Scalar.muli v153 c4_i32_79
  let c2_i32_80 : BitVec 32 := 2#32
  let v171 : BitVec 32 := Scalar.addi v170 c2_i32_80
  let v172 : BitVec 1 := Scalar.cmpi .eq v171 v2
  let v173 : BitVec 32 := Scalar.extui v172
  let c0_i32_81 : BitVec 32 := 0#32
  let v174 : BitVec 1 := Scalar.cmpi .ne v173 c0_i32_81
  v174

def k0_off22 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let v186 : Index := Scalar.indexCast arg8
  let c0_87 : Index := 0#32
  let c256 : Index := 256#32
  ![v186.toNat, 0, 256]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v189 : BitVec 32 := Scalar.muli v2 c256_i32
  let v190 : Index := Scalar.indexCast v189
  let c0_88 : Index := 0#32
  ![v190.toNat, 0]
def k0_cond7 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_79 : BitVec 32 := 4#32
  let v170 : BitVec 32 := Scalar.muli v153 c4_i32_79
  let c2_i32_80 : BitVec 32 := 2#32
  let v171 : BitVec 32 := Scalar.addi v170 c2_i32_80
  let v175 : BitVec 1 := Scalar.cmpi .ne v171 v2
  let v176 : BitVec 32 := Scalar.extui v175
  let c0_i32_82 : BitVec 32 := 0#32
  let v177 : BitVec 1 := Scalar.cmpi .ne v176 c0_i32_82
  v177

def k0_off24 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_79 : BitVec 32 := 4#32
  let v170 : BitVec 32 := Scalar.muli v153 c4_i32_79
  let c2_i32_80 : BitVec 32 := 2#32
  let v171 : BitVec 32 := Scalar.addi v170 c2_i32_80
  ![v171.toNat]
def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v186 : BitVec 32 := Scalar.muli v2 c256_i32
  let c0_i32_89 : BitVec 32 := 0#32
  ![v186.toNat, 0]
def k0_off27 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let c0_i32_90 : BitVec 32 := 0#32
  let c256_i32_91 : BitVec 32 := 256#32
  ![arg8.toNat, 0, 256]
def k0_dev4 (d0 : Dev nD) (k0_t2 : Fin k0_t2_loop.trips) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_79 : BitVec 32 := 4#32
  let v170 : BitVec 32 := Scalar.muli v153 c4_i32_79
  let c2_i32_80 : BitVec 32 := 2#32
  let v171 : BitVec 32 := Scalar.addi v170 c2_i32_80
  let c1_i32_87 : BitVec 32 := 1#32
  let v187 : BitVec 32 := Scalar.muli v171 c1_i32_87
  let v188 : BitVec 32 := Scalar.addi c0_i32_88 v187
  v188.toNat
def k0_cond8 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_83 : BitVec 32 := 4#32
  let v178 : BitVec 32 := Scalar.muli v153 c4_i32_83
  let c3_i32_84 : BitVec 32 := 3#32
  let v179 : BitVec 32 := Scalar.addi v178 c3_i32_84
  let v180 : BitVec 1 := Scalar.cmpi .eq v179 v2
  let v181 : BitVec 32 := Scalar.extui v180
  let c0_i32_85 : BitVec 32 := 0#32
  let v182 : BitVec 1 := Scalar.cmpi .ne v181 c0_i32_85
  v182

def k0_off28 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let v186 : Index := Scalar.indexCast arg8
  let c0_87 : Index := 0#32
  let c384 : Index := 384#32
  ![v186.toNat, 0, 384]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v189 : BitVec 32 := Scalar.muli v2 c256_i32
  let v190 : Index := Scalar.indexCast v189
  let c0_88 : Index := 0#32
  ![v190.toNat, 0]
def k0_cond9 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_83 : BitVec 32 := 4#32
  let v178 : BitVec 32 := Scalar.muli v153 c4_i32_83
  let c3_i32_84 : BitVec 32 := 3#32
  let v179 : BitVec 32 := Scalar.addi v178 c3_i32_84
  let v183 : BitVec 1 := Scalar.cmpi .ne v179 v2
  let v184 : BitVec 32 := Scalar.extui v183
  let c0_i32_86 : BitVec 32 := 0#32
  let v185 : BitVec 1 := Scalar.cmpi .ne v184 c0_i32_86
  v185

def k0_off30 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_83 : BitVec 32 := 4#32
  let v178 : BitVec 32 := Scalar.muli v153 c4_i32_83
  let c3_i32_84 : BitVec 32 := 3#32
  let v179 : BitVec 32 := Scalar.addi v178 c3_i32_84
  ![v179.toNat]
def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v186 : BitVec 32 := Scalar.muli v2 c256_i32
  let c0_i32_89 : BitVec 32 := 0#32
  ![v186.toNat, 0]
def k0_off33 (k0_t2 : Fin k0_t2_loop.trips) : Fin 3 → Nat :=
  let c0_i32_16 : BitVec 32 := 0#32
  let c1_i32_18 : BitVec 32 := 1#32
  let arg8 : BitVec 32 := Scf.iv c0_i32_16 c1_i32_18 k0_t2
  let c0_i32_90 : BitVec 32 := 0#32
  let c384_i32 : BitVec 32 := 384#32
  ![arg8.toNat, 0, 384]
def k0_dev5 (d0 : Dev nD) (k0_t2 : Fin k0_t2_loop.trips) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let c1_i32_18 : BitVec 32 := 1#32
  let arg8 : BitVec 32 := Scf.iv c0_i32_16 c1_i32_18 k0_t2
  let v152 : BitVec 32 := Scalar.addi v19 arg8
  let c8_i32_70 : BitVec 32 := 8#32
  let v153 : BitVec 32 := Scalar.remsi v152 c8_i32_70
  let c4_i32_83 : BitVec 32 := 4#32
  let v178 : BitVec 32 := Scalar.muli v153 c4_i32_83
  let c3_i32_84 : BitVec 32 := 3#32
  let v179 : BitVec 32 := Scalar.addi v178 c3_i32_84
  let c1_i32_87 : BitVec 32 := 1#32
  let v187 : BitVec 32 := Scalar.muli v179 c1_i32_87
  let v188 : BitVec 32 := Scalar.addi c0_i32_88 v187
  v188.toNat
abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Geom.lean ====
/-
Where the kernel's steps act: device `c` visits the 32 targets in an order of its own, step `n` (trip `n / 4` of its
loop over column groups, slice `n % 4` within the group) at target `tgt c n`. Each word of the printed program that
depends on the device and the trip (offsets, addressed devices, conditions) as a number.
-/
module

public import proofs.«01_k».proof.Proof.Gen.KernelIdeal
public import proofs.«01_k».proof.Proof.Gen.KernelIdeal.Skeleton

@[expose] public section

noncomputable section

namespace Cert.A2A

open Cert.KernelIdeal Cert.KernelIdeal.Gen
open Idealize.ShloMosaic

/-- The column group device `c` works on at trip `k`: its own group first, then the following ones around. -/
def grp (c : Fin 32) (k : ℕ) : Fin 8 := ⟨(c.val / 4 + k) % 8, Nat.mod_lt _ (by decide)⟩

/-- The target of device `c`'s step `n`: slice `n % 4` of the group of trip `n / 4`. -/
def tgt (c n : Fin 32) : Fin 32 := ⟨4 * ((c.val / 4 + n.val / 4) % 8) + n.val % 4, by omega⟩

/-- The step at which device `c` visits target `t`. -/
def stp (c t : Fin 32) : Fin 32 := ⟨4 * ((t.val / 4 + 8 - c.val / 4) % 8) + t.val % 4, by omega⟩

/-- The step at which a device visits the target of step `n` is `n`, -/
theorem stp_tgt (c n : Fin 32) : stp c (tgt c n) = n := by
  apply Fin.ext; simp only [stp, tgt]; omega
/-- and the target of the step at which it visits `t` is `t`. -/
theorem tgt_stp (c t : Fin 32) : tgt c (stp c t) = t := by
  apply Fin.ext; simp only [stp, tgt]; omega

/-- Steps and targets of device `c` correspond one to one. -/
def tgtE (c : Fin 32) : Fin 32 ≃ Fin 32 := ⟨tgt c, stp c, stp_tgt c, tgt_stp c⟩

/-- The entry loop has 32 rounds, -/
theorem trips1 : k0_t1_loop.trips = 32 := by decide +kernel
/-- the main loop 8 trips. -/
theorem trips2 : k0_t2_loop.trips = 8 := by decide +kernel

/-- A trip's number is below 8. -/
theorem t2_lt (t : Fin k0_t2_loop.trips) : t.val < 8 := trips2 ▸ t.isLt

/-- Step `j` of trip `t`. -/
def stepOf (t : Fin k0_t2_loop.trips) (j : Fin 4) : Fin 32 := ⟨4 * t.val + j.val, by have := t2_lt t; omega⟩

/-! The printed offsets, conditions and addressed devices, by evaluation over all devices and trips. -/

/-- The first weight copy reads the device's own column group. -/
theorem off1_eq : ∀ d : Dev nD, k0_off1 d = ![0, 512 * (grp d 0).val] := by decide +kernel
/-- Trip `t` waits for the column group of that trip. -/
theorem off4_eq : ∀ (d : Dev nD) (t : Fin k0_t2_loop.trips), k0_off4 d t = ![0, 512 * (grp d t.val).val] := by decide +kernel
/-- It issues a further copy unless it is the last trip, -/
theorem cond1_iff : ∀ t : Fin k0_t2_loop.trips, k0_cond1 t = 1#1 ↔ t.val + 1 < 8 := by decide +kernel
/-- of the next trip's column group. -/
theorem off7_eq : ∀ (d : Dev nD) (t : Fin k0_t2_loop.trips), k0_off7 d t = ![0, 512 * (grp d (t.val + 1)).val] := by decide +kernel
/-- Target 0 of a trip: the local store is done if it is the device itself, -/
theorem cond2_iff : ∀ (d : Dev nD) (t : Fin k0_t2_loop.trips), k0_cond2 d t = 1#1 ↔ tgt d (stepOf t 0) = d := by decide +kernel
/-- the copy if it is not, -/
theorem cond3_iff : ∀ (d : Dev nD) (t : Fin k0_t2_loop.trips), k0_cond3 d t = 1#1 ↔ tgt d (stepOf t 0) ≠ d := by decide +kernel
/-- the copy goes to the target, -/
theorem dev2_eq : ∀ (d : Dev nD) (t : Fin k0_t2_loop.trips), k0_dev2 d t = (tgt d (stepOf t 0)).val := by decide +kernel
/-- and its send semaphore is the target's. -/
theorem off12_eq : ∀ (d : Dev nD) (t : Fin k0_t2_loop.trips), k0_off12 d t = ![(tgt d (stepOf t 0)).val] := by decide +kernel
/-- Target 1 of a trip: the local store is done if it is the device itself, -/
theorem cond4_iff : ∀ (d : Dev nD) (t : Fin k0_t2_loop.trips), k0_cond4 d t = 1#1 ↔ tgt d (stepOf t 1) = d := by decide +kernel
/-- the copy if it is not, -/
theorem cond5_iff : ∀ (d : Dev nD) (t : Fin k0_t2_loop.trips), k0_cond5 d t = 1#1 ↔ tgt d (stepOf t 1) ≠ d := by decide +kernel
/-- the copy goes to the target, -/
theorem dev3_eq : ∀ (d : Dev nD) (t : Fin k0_t2_loop.trips), k0_dev3 d t = (tgt d (stepOf t 1)).val := by decide +kernel
/-- and its send semaphore is the target's. -/
theorem off18_eq : ∀ (d : Dev nD) (t : Fin k0_t2_loop.trips), k0_off18 d t = ![(tgt d (stepOf t 1)).val] := by decide +kernel
/-- Target 2 of a trip: the local store is done if it is the device itself, -/
theorem cond6_iff : ∀ (d : Dev nD) (t : Fin k0_t2_loop.trips), k0_cond6 d t = 1#1 ↔ tgt d (stepOf t 2) = d := by decide +kernel
/-- the copy if it is not, -/
theorem cond7_iff : ∀ (d : Dev nD) (t : Fin k0_t2_loop.trips), k0_cond7 d t = 1#1 ↔ tgt d (stepOf t 2) ≠ d := by decide +kernel
/-- the copy goes to the target, -/
theorem dev4_eq : ∀ (d : Dev nD) (t : Fin k0_t2_loop.trips), k0_dev4 d t = (tgt d (stepOf t 2)).val := by decide +kernel
/-- and its send semaphore is the target's. -/
theorem off24_eq : ∀ (d : Dev nD) (t : Fin k0_t2_loop.trips), k0_off24 d t = ![(tgt d (stepOf t 2)).val] := by decide +kernel
/-- Target 3 of a trip: the local store is done if it is the device itself, -/
theorem cond8_iff : ∀ (d : Dev nD) (t : Fin k0_t2_loop.trips), k0_cond8 d t = 1#1 ↔ tgt d (stepOf t 3) = d := by decide +kernel
/-- the copy if it is not, -/
theorem cond9_iff : ∀ (d : Dev nD) (t : Fin k0_t2_loop.trips), k0_cond9 d t = 1#1 ↔ tgt d (stepOf t 3) ≠ d := by decide +kernel
/-- the copy goes to the target, -/
theorem dev5_eq : ∀ (d : Dev nD) (t : Fin k0_t2_loop.trips), k0_dev5 d t = (tgt d (stepOf t 3)).val := by decide +kernel
/-- and its send semaphore is the target's. -/
theorem off30_eq : ∀ (d : Dev nD) (t : Fin k0_t2_loop.trips), k0_off30 d t = ![(tgt d (stepOf t 3)).val] := by decide +kernel

end Cert.A2A
-- ==== Proof.Views.lean ====
/-
The buffers of one device in pieces, and what each piece holds: the 32 row blocks of the result, the 8 slabs of the
staging scratch and each slab's four slices, the two slots of the weight scratch. For each piece its elements; for
each transfer and store of the kernel what it leaves there.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.ValueLayout
public import Idealize.ShloMosaic.Lib.Tactic

@[expose] public section

noncomputable section

namespace Cert.A2A

open Cert.KernelIdeal Cert.KernelIdeal.Gen
open Idealize.ShloMosaic
open Idealize.ShloMosaic.TcCoe
open Idealize.ShloMosaic.ValueIdx

variable {F : FTy → Type} [FloatOps F]

/-! ## The memrefs -/

abbrev xM : Memref sig .tc .vmem S256x8192 .f32 := Memref.whole cc0_stg0_0
abbrev oM : Memref sig .tc .vmem S8192x128 .f32 := Memref.whole cc0_stg1_0
abbrev bM : Memref sig .tc .vmem S2x8192x512 .f32 := Memref.whole cc0_scratch0
abbrev gM : Memref sig .tc .vmem S8x256x512 .f32 := Memref.whole cc0_scratch1
abbrev wM : Memref sig .tc .hbm S8192x4096 .f32 := Memref.whole main_arg1

/-- Every row block lies in the result, -/
theorem inb_o (p : Fin 32) : ∀ a, (![256 * p.val, 0] : Fin 2 → ℕ) a + S256x128.size a ≤ S8192x128.size a := by
  revert p; decide +kernel
/-- every slice in the staging scratch, -/
theorem inb_g (n : Fin 32) : ∀ a, (![n.val / 4, 0, 128 * (n.val % 4)] : Fin 3 → ℕ) a + S1x256x128.size a ≤ S8x256x512.size a := by
  revert n; decide +kernel
/-- every slab too, -/
theorem inb_s (s : Fin 8) : ∀ a, (![s.val, 0, 0] : Fin 3 → ℕ) a + S1x256x512.size a ≤ S8x256x512.size a := by
  revert s; decide +kernel
/-- every slot in the weight scratch, -/
theorem inb_b (σ : Fin 2) : ∀ a, (![σ.val, 0, 0] : Fin 3 → ℕ) a + S1x8192x512.size a ≤ S2x8192x512.size a := by
  revert σ; decide +kernel
/-- and every column group in the weights. -/
theorem inb_w (g : Fin 8) : ∀ a, (![0, 512 * g.val] : Fin 2 → ℕ) a + S8192x512.size a ≤ S8192x4096.size a := by
  revert g; decide +kernel

abbrev oRect (p : Fin 32) : Rect S8192x128 := Rect.unit (s := S8192x128) ![256 * p.val, 0] S256x128.size (inb_o p)
abbrev gRect (n : Fin 32) : Rect S8x256x512 := Rect.unit (s := S8x256x512) ![n.val / 4, 0, 128 * (n.val % 4)] S1x256x128.size (inb_g n)
abbrev sRect (s : Fin 8) : Rect S8x256x512 := Rect.unit (s := S8x256x512) ![s.val, 0, 0] S1x256x512.size (inb_s s)
abbrev bRect (σ : Fin 2) : Rect S2x8192x512 := Rect.unit (s := S2x8192x512) ![σ.val, 0, 0] S1x8192x512.size (inb_b σ)
abbrev wRect (g : Fin 8) : Rect S8192x4096 := Rect.unit (s := S8192x4096) ![0, 512 * g.val] S8192x512.size (inb_w g)

/-- Row block `p` of the result. -/
abbrev oBlk (p : Fin 32) : Memref sig .tc .vmem S256x128 .f32 := oM.slice (oRect p) (fun _ => rfl)
/-- The slice of the staging scratch that step `n` delivers. -/
abbrev gBlk (n : Fin 32) : Memref sig .tc .vmem S256x128 .f32 :=
  (gM.slice (gRect n) (fun _ => rfl)).squeeze S256x128 squeezes_S1x256x128_S256x128
/-- Slot `σ` of the weight scratch. -/
abbrev bSlot (σ : Fin 2) : Memref sig .tc .vmem S8192x512 .f32 :=
  (bM.slice (bRect σ) (fun _ => rfl)).squeeze S8192x512 squeezes_S1x8192x512_S8192x512
/-- Column group `g` of the weights. -/
abbrev wCols (g : Fin 8) : Memref sig .tc .hbm S8192x512 .f32 := wM.slice (wRect g) (fun _ => rfl)

/-! ## The elements of the pieces -/

abbrev oSet (p : Fin 32) : Finset S8192x128.Idx := (oBlk p).view.set
abbrev gSet (n : Fin 32) : Finset S8x256x512.Idx := (gBlk n).view.set
abbrev sSet (s : Fin 8) : Finset S8x256x512.Idx := (sRect s).set
abbrev bSet (σ : Fin 2) : Finset S2x8192x512.Idx := (bSlot σ).view.set

/-- A row block's elements are its rectangle's, -/
theorem oSet_eq (p : Fin 32) : oSet p = (oRect p).set := View.set_slice_whole _ _
/-- and so a slice's, -/
theorem gSet_eq (n : Fin 32) : gSet n = (gRect n).set := (Memref.set_view_squeeze _ _).trans (View.set_slice_whole _ _)
/-- and a slot's. -/
theorem bSet_eq (σ : Fin 2) : bSet σ = (bRect σ).set := (Memref.set_view_squeeze _ _).trans (View.set_slice_whole _ _)

/-- An element is in row block `p` if its row divided by 256 is `p`, -/
theorem mem_oSet (p : Fin 32) (i : S8192x128.Idx) : i ∈ oSet p ↔ (i 0).val / 256 = p.val := by
  have h1 : (i 1).val < 128 := (i 1).isLt
  rw [oSet_eq, Rect.mem_set_unit, Fin.forall_fin_two]
  show (256 * p.val ≤ (i 0).val ∧ (i 0).val < 256 * p.val + 256) ∧ (0 ≤ (i 1).val ∧ (i 1).val < 0 + 128) ↔ _
  omega

/-- in slice `n` if its slab is `n / 4` and its column divided by 128 is `n % 4`, -/
theorem mem_gSet (n : Fin 32) (i : S8x256x512.Idx) : i ∈ gSet n ↔ (i 0).val = n.val / 4 ∧ (i 2).val / 128 = n.val % 4 := by
  have h1 : (i 1).val < 256 := (i 1).isLt
  rw [gSet_eq, Rect.mem_set_unit, Fin.forall_fin_succ, Fin.forall_fin_two]
  show (n.val / 4 ≤ (i 0).val ∧ (i 0).val < n.val / 4 + 1) ∧ (0 ≤ (i 1).val ∧ (i 1).val < 0 + 256)
    ∧ (128 * (n.val % 4) ≤ (i 2).val ∧ (i 2).val < 128 * (n.val % 4) + 128) ↔ _
  omega

/-- in slab `s` if its first coordinate is `s`, -/
theorem mem_sSet (s : Fin 8) (i : S8x256x512.Idx) : i ∈ sSet s ↔ (i 0).val = s.val := by
  have h1 : (i 1).val < 256 := (i 1).isLt
  have h2 : (i 2).val < 512 := (i 2).isLt
  rw [Rect.mem_set_unit, Fin.forall_fin_succ, Fin.forall_fin_two]
  show (s.val ≤ (i 0).val ∧ (i 0).val < s.val + 1) ∧ (0 ≤ (i 1).val ∧ (i 1).val < 0 + 256)
    ∧ (0 ≤ (i 2).val ∧ (i 2).val < 0 + 512) ↔ _
  omega

/-- and in slot `σ` if its first coordinate is `σ`. -/
theorem mem_bSet (σ : Fin 2) (i : S2x8192x512.Idx) : i ∈ bSet σ ↔ (i 0).val = σ.val := by
  have h1 : (i 1).val < 8192 := (i 1).isLt
  have h2 : (i 2).val < 512 := (i 2).isLt
  rw [bSet_eq, Rect.mem_set_unit, Fin.forall_fin_succ, Fin.forall_fin_two]
  show (σ.val ≤ (i 0).val ∧ (i 0).val < σ.val + 1) ∧ (0 ≤ (i 1).val ∧ (i 1).val < 0 + 8192)
    ∧ (0 ≤ (i 2).val ∧ (i 2).val < 0 + 512) ↔ _
  omega

/-- Distinct row blocks of the result share no element, -/
theorem oSet_disj (p q : Fin 32) (h : p ≠ q) : Disjoint (oSet p) (oSet q) :=
  Finset.disjoint_left.mpr fun i hp hq => h (Fin.ext (((mem_oSet p i).mp hp).symm.trans ((mem_oSet q i).mp hq)))
/-- and the 32 are all of it. -/
theorem oSet_cover : (Finset.univ : Finset S8192x128.Idx) = Finset.univ.biUnion oSet := by
  ext i
  have h0 : (i 0).val < 8192 := (i 0).isLt
  simp only [Finset.mem_univ, Finset.mem_biUnion, true_and, true_iff]
  exact ⟨⟨(i 0).val / 256, by omega⟩, (mem_oSet _ i).mpr rfl⟩

/-- Distinct slabs of the staging scratch share no element, -/
theorem sSet_disj (p q : Fin 8) (h : p ≠ q) : Disjoint (sSet p) (sSet q) :=
  Finset.disjoint_left.mpr fun i hp hq => h (Fin.ext (((mem_sSet p i).mp hp).symm.trans ((mem_sSet q i).mp hq)))
/-- and the 8 are all of it. -/
theorem sSet_cover : (Finset.univ : Finset S8x256x512.Idx) = Finset.univ.biUnion sSet := by
  ext i
  simp only [Finset.mem_univ, Finset.mem_biUnion, true_and, true_iff]
  exact ⟨i 0, (mem_sSet _ i).mpr rfl⟩

/-- Distinct slices of the staging scratch share no element, -/
theorem gSet_disj (p q : Fin 32) (h : p ≠ q) : Disjoint (gSet p) (gSet q) :=
  Finset.disjoint_left.mpr fun i hp hq => h (Fin.ext (by
    have a := (mem_gSet p i).mp hp; have b := (mem_gSet q i).mp hq; omega))
/-- and the 32 are all of it; -/
theorem gSet_cover : (Finset.univ : Finset S8x256x512.Idx) = Finset.univ.biUnion gSet := by
  ext i
  have h0 : (i 0).val < 8 := (i 0).isLt
  have h2 : (i 2).val < 512 := (i 2).isLt
  simp only [Finset.mem_univ, Finset.mem_biUnion, true_and, true_iff]
  refine ⟨⟨4 * (i 0).val + (i 2).val / 128, by omega⟩, (mem_gSet _ i).mpr ⟨?_, ?_⟩⟩ <;> dsimp only <;> omega

/-- Slice `j` of slab `s`, numbered by step. -/
def sliceOf (s : Fin 8) (j : Fin 4) : Fin 32 := ⟨4 * s.val + j.val, by omega⟩
/-- Its slab is `s`, -/
theorem sliceOf_div (s : Fin 8) (j : Fin 4) : (sliceOf s j).val / 4 = s.val := by simp only [sliceOf]; omega
/-- its place in it `j`. -/
theorem sliceOf_mod (s : Fin 8) (j : Fin 4) : (sliceOf s j).val % 4 = j.val := by simp only [sliceOf]; omega

/-- a slab is its four slices. -/
theorem sSet_slices (s : Fin 8) : sSet s = Finset.univ.biUnion fun j => gSet (sliceOf s j) := by
  ext i
  have h2 : (i 2).val < 512 := (i 2).isLt
  rw [mem_sSet]
  simp only [Finset.mem_biUnion, Finset.mem_univ, true_and, mem_gSet, sliceOf_div, sliceOf_mod]
  exact ⟨fun h => ⟨⟨(i 2).val / 128, by omega⟩, h, rfl⟩, fun ⟨_, h, _⟩ => h⟩

/-- The two slots of the weight scratch share no element, -/
theorem bSet_disj (p q : Fin 2) (h : p ≠ q) : Disjoint (bSet p) (bSet q) :=
  Finset.disjoint_left.mpr fun i hp hq => h (Fin.ext (((mem_bSet p i).mp hp).symm.trans ((mem_bSet q i).mp hq)))
/-- and the two are all of it. -/
theorem bSet_cover : (Finset.univ : Finset S2x8192x512.Idx) = Finset.univ.biUnion bSet := by
  ext i
  simp only [Finset.mem_univ, Finset.mem_biUnion, true_and, true_iff]
  exact ⟨i 0, (mem_bSet _ i).mpr rfl⟩

/-! ## Contents -/

/-- A value written through a view leaves, on the view's elements, any contents that the value reads from. -/
theorem write_eq_of {κ : Kind} {sp : Space} {S : Shape} {e : EltTy} (v : View sig κ sp S e) (f g : v.ty.Contents (Elt F))
    (w : S.Idx → Elt F e) (h : ∀ j, w j = v.read (Elt F) g j) : ∀ i ∈ v.set, v.write (Elt F) f w Finset.univ i = g i := by
  intro i hi
  obtain ⟨j, rfl⟩ := View.exists_emb_of_mem_set v hi
  rw [View.write_emb_of_mem f w (Finset.mem_univ j), h j, View.read_apply, cast_cast, cast_eq]

variable (m : (ℓ : Loc nD τ sig) → Buf (Elt F) ℓ)

/-- Device `c`'s rows of the left operand, as staged. -/
def xstg (c : Dev nD) : (cc0_stg0_0 : Ref sig .tc).ty.Contents (Elt F) :=
  (win0_0.blk (0 : Fin 1)).view.read (Elt F) (m ((c : Thread nD τ).loc main_arg0))

/-- Device `c`'s weights. -/
abbrev wArr (c : Dev nD) : S8192x4096.Idx → Elt F .f32 := m ((c : Thread nD τ).loc main_arg1)

/-- Column group `g` of them, one slab. -/
def wslab (c : Dev nD) (g : Fin 8) : Vec F S1x8192x512 .f32 := fun i =>
  wArr m c (ix2 (n0 := 8192) (n1 := 4096) (i 1) ⟨512 * g.val + (i 2).val, by have h : (i 2).val < 512 := (i 2).isLt; omega⟩)

/-- The weight scratch with column group `g` in both slots. -/
def wAt (c : Dev nD) (g : Fin 8) : (cc0_scratch0 : Ref sig .tc).ty.Contents (Elt F) := fun i : S2x8192x512.Idx =>
  wArr m c (ix2 (n0 := 8192) (n1 := 4096) (i 1) ⟨512 * g.val + (i 2).val, by have h : (i 2).val < 512 := (i 2).isLt; omega⟩)

/-- What device `c` computes for column group `g`. -/
abbrev slabVal (c : Dev nD) (g : Fin 8) : FVec F S1x256x512 .f32 := k0_pay1 (xstg m c) (wslab m c g)

/-- The staging scratch with every slab computed. -/
def stgAt (c : Dev nD) : (cc0_scratch1 : Ref sig .tc).ty.Contents (Elt F) := fun i : S8x256x512.Idx =>
  slabVal m c (grp c (i 0).val) (ix3 (n0 := 1) (n1 := 256) (n2 := 512) 0 (i 1) (i 2))

/-- Device `t`'s result: row block `p` is what device `p` computed for `t`'s columns. -/
def outAt (t : Dev nD) : (cc0_stg1_0 : Ref sig .tc).ty.Contents (Elt F) := fun i : S8192x128.Idx =>
  slabVal m ⟨(i 0).val / 256, by have h : (i 0).val < 8192 := (i 0).isLt; show _ < 32; omega⟩ ⟨t.val / 4, by have h : t.val < 32 := t.isLt; omega⟩
    (ix3 (n0 := 1) (n1 := 256) (n2 := 512) 0 ⟨(i 0).val % 256, Nat.mod_lt _ (by decide)⟩
      ⟨128 * (t.val % 4) + (i 1).val, by have h : (i 1).val < 128 := (i 1).isLt; omega⟩)

/-- The rows of a slot, read back: a column group's slab. -/
theorem slot_read (c : Dev nD) (g : Fin 8) (σ : Fin 2) :
    bM.view.readAt (Elt F) (bRect σ).toLoadRect (wAt m c g) = wslab m c g := by
  funext j
  have e : ∀ a : Fin 3, ((((View.whole cc0_scratch0).slice (bRect σ)).emb j a : Fin _) : ℕ) = (![σ.val, 0, 0] : Fin 3 → ℕ) a + (j a).val :=
    fun a => ValueKit.view_emb_slice_whole_unit_val cc0_scratch0 _ _ (inb_b σ) j a
  show wAt m c g (((View.whole cc0_scratch0).slice (bRect σ)).emb j) = wslab m c g j
  unfold wAt wslab
  exact congrArg (wArr m c) (congrArg₂ (ix2 (n0 := 8192) (n1 := 4096)) (Fin.ext ((e 1).trans (Nat.zero_add _)))
    (Fin.ext (congrArg (512 * g.val + ·) ((e 2).trans (Nat.zero_add _)))))

/-- The copy of a column group into a slot leaves that group there. -/
theorem slot_copy (c : Dev nD) (g : Fin 8) (σ : Fin 2) (fd : (cc0_scratch0 : Ref sig .tc).ty.Contents (Elt F)) :
    ∀ i ∈ bSet σ, (bSlot σ).view.write (Elt F) fd ((wCols g).view.read (Elt F) (wArr m c)) Finset.univ i = wAt m c g i := by
  refine write_eq_of (F := F) (bSlot σ).view fd (wAt m c g) _ fun j => ?_
  obtain ⟨a, b, rfl⟩ : ∃ (a : Fin 8192) (b : Fin 512), j = ix2 a b := ⟨j 0, j 1, eq_ix2 j⟩
  show wArr m c (((View.whole main_arg1).slice (wRect g)).emb (ix2 a b))
    = wAt m c g (((View.whole cc0_scratch0).slice (bRect σ)).emb (Shape.reshapeEquiv
        (show (⟨2, ![8192, 512]⟩ : Shape).numel = (⟨3, ![1, 8192, 512]⟩ : Shape).numel from squeezes_S1x8192x512_S8192x512.numel_eq) (ix2 a b)))
  rw [reshapeEquiv_ix2_1ab]
  have e : ∀ x : Fin 3, ((((View.whole cc0_scratch0).slice (bRect σ)).emb (ix3 (⟨0, Nat.one_pos⟩ : Fin 1) a b) x : Fin _) : ℕ)
      = (![σ.val, 0, 0] : Fin 3 → ℕ) x + (ix3 (⟨0, Nat.one_pos⟩ : Fin 1) a b x : Fin _).val :=
    fun x => ValueKit.view_emb_slice_whole_unit_val cc0_scratch0 _ _ (inb_b σ) _ x
  have e' : ∀ x : Fin 2, ((((View.whole main_arg1).slice (wRect g)).emb (ix2 a b) x : Fin _) : ℕ)
      = (![0, 512 * g.val] : Fin 2 → ℕ) x + (ix2 a b x : Fin _).val :=
    fun x => ValueKit.view_emb_slice_whole_unit_val main_arg1 _ _ (inb_w g) _ x
  unfold wAt
  refine congrArg (wArr m c) ((eq_ix2 _).trans (congrArg₂ (ix2 (n0 := 8192) (n1 := 4096)) (Fin.ext ?_) (Fin.ext ?_)))
  · exact (e' 0).trans (e 1).symm
  · exact (e' 1).trans (congrArg (512 * g.val + ·) ((e 2).trans (Nat.zero_add _)).symm)

/-- The store of a computed slab leaves the staging scratch's slab. -/
theorem slab_store (c : Dev nD) (s : Fin 8) (f : (cc0_scratch1 : Ref sig .tc).ty.Contents (Elt F)) :
    ∀ i ∈ sSet s, (gM.access (sRect s) : View sig .tc _ _ _).write (Elt F) f (slabVal m c (grp c s.val)) Finset.univ i = stgAt m c i := by
  intro i hi
  refine write_eq_of (gM.access (sRect s) : View sig .tc _ _ _) _ _ _ (fun j => ?_) i (by
    show i ∈ ((View.whole cc0_scratch1).slice (sRect s)).set
    rw [View.set_slice_whole]; exact hi)
  have e : ∀ a : Fin 3, ((((View.whole cc0_scratch1).slice (sRect s)).emb j a : Fin _) : ℕ) = (![s.val, 0, 0] : Fin 3 → ℕ) a + (j a).val :=
    fun a => ValueKit.view_emb_slice_whole_unit_val cc0_scratch1 _ _ (inb_s s) j a
  have hj : (j 0).val = 0 := by have h : (j 0).val < 1 := (j 0).isLt; omega
  show slabVal m c (grp c s.val) j = stgAt m c (((View.whole cc0_scratch1).slice (sRect s)).emb j)
  have h0 : ((((View.whole cc0_scratch1).slice (sRect s)).emb j 0 : Fin _) : ℕ) = s.val := (e 0).trans (by rw [hj]; rfl)
  unfold stgAt
  rw [h0]
  refine congrArg (slabVal m c (grp c s.val)) ((eq_ix3 j).trans ?_)
  congr 1
  · exact Fin.ext hj
  · exact Fin.ext ((e 1).trans (Nat.zero_add _)).symm
  · exact Fin.ext ((e 2).trans (Nat.zero_add _)).symm

/-- A step's slice, read back as a block, is the target's row block. -/
theorem slice_val (c n : Fin 32) (j : S256x128.Idx) :
    shapeCast S256x128 (gM.view.readAt (Elt F) (gRect n).toLoadRect (stgAt m c)) shapeCasts_S1x256x128_S256x128 j
      = (oBlk c).view.read (Elt F) (outAt m (tgt c n)) j := by
  have hc : c.val < 32 := c.isLt
  obtain ⟨a, b, rfl⟩ : ∃ (a : Fin 256) (b : Fin 128), j = ix2 a b := ⟨j 0, j 1, eq_ix2 j⟩
  show stgAt m c (((View.whole cc0_scratch1).slice (gRect n)).emb (Shape.reshapeEquiv
        (show (⟨2, ![256, 128]⟩ : Shape).numel = (⟨3, ![1, 256, 128]⟩ : Shape).numel from shapeCasts_S1x256x128_S256x128) (ix2 a b)))
    = outAt m (tgt c n) (((View.whole cc0_stg1_0).slice (oRect c)).emb (ix2 a b))
  rw [reshapeEquiv_ix2_1ab]
  have e : ∀ x : Fin 3, ((((View.whole cc0_scratch1).slice (gRect n)).emb (ix3 (⟨0, Nat.one_pos⟩ : Fin 1) a b) x : Fin _) : ℕ)
      = (![n.val / 4, 0, 128 * (n.val % 4)] : Fin 3 → ℕ) x + (ix3 (⟨0, Nat.one_pos⟩ : Fin 1) a b x : Fin _).val :=
    fun x => ValueKit.view_emb_slice_whole_unit_val cc0_scratch1 _ _ (inb_g n) _ x
  have e' : ∀ x : Fin 2, ((((View.whole cc0_stg1_0).slice (oRect c)).emb (ix2 a b) x : Fin _) : ℕ)
      = (![256 * c.val, 0] : Fin 2 → ℕ) x + (ix2 a b x : Fin _).val :=
    fun x => ValueKit.view_emb_slice_whole_unit_val cc0_stg1_0 _ _ (inb_o c) _ x
  have e0 := e 0; have e1 := e 1; have e2 := e 2; have f0 := e' 0; have f1 := e' 1
  generalize ((View.whole cc0_scratch1).slice (gRect n)).emb (ix3 (⟨0, Nat.one_pos⟩ : Fin 1) a b) = y at e0 e1 e2 ⊢
  generalize ((View.whole cc0_stg1_0).slice (oRect c)).emb (ix2 a b) = z at f0 f1 ⊢
  replace e0 : (y 0).val = n.val / 4 := e0
  replace e1 : (y 1).val = a.val := e1.trans (Nat.zero_add _)
  replace e2 : (y 2).val = 128 * (n.val % 4) + b.val := e2
  replace f0 : (z 0).val = 256 * c.val + a.val := f0
  replace f1 : (z 1).val = b.val := f1.trans (Nat.zero_add _)
  unfold stgAt outAt
  have hd : (⟨(z 0).val / 256, by have h : (z 0).val < 8192 := (z 0).isLt; show _ < 32; omega⟩ : Dev nD) = c :=
    Fin.ext (by show (z 0).val / 256 = c.val; omega)
  have hg : grp c (y 0).val = ⟨(tgt c n).val / 4, by have h : (tgt c n).val < 32 := (tgt c n).isLt; omega⟩ :=
    Fin.ext (by simp only [grp, tgt]; omega)
  rw [hd, hg]
  refine congrArg (slabVal m c _) (congrArg₂ (ix3 (n0 := 1) (n1 := 256) (n2 := 512) 0) (Fin.ext ?_) (Fin.ext ?_))
  · show (y 1).val = (z 0).val % 256; omega
  · show (y 2).val = 128 * ((tgt c n).val % 4) + (z 1).val; simp only [tgt]; omega

/-- The copy of step `n`'s slice into the target's row block leaves the target's result there, -/
theorem blk_copy (c n : Fin 32) (fd : (cc0_stg1_0 : Ref sig .tc).ty.Contents (Elt F)) :
    ∀ i ∈ oSet c, (oBlk c).view.write (Elt F) fd ((gBlk n).view.read (Elt F) (stgAt m c)) Finset.univ i = outAt m (tgt c n) i :=
  write_eq_of _ _ _ _ fun j => slice_val m c n j

/-- and so does the store of it, when the target is the device itself. -/
theorem blk_store (c n : Fin 32) (h : tgt c n = c) (fd : (cc0_stg1_0 : Ref sig .tc).ty.Contents (Elt F)) :
    ∀ i ∈ oSet c, (oM.access (oRect c) : View sig .tc _ _ _).write (Elt F) fd
      (shapeCast S256x128 (gM.view.readAt (Elt F) (gRect n).toLoadRect (stgAt m c)) shapeCasts_S1x256x128_S256x128) Finset.univ i = outAt m c i := by
  have := write_eq_of (oM.access (oRect c) : View sig .tc _ _ _) fd (outAt m c) _ (fun j => (slice_val m c n j).trans (by rw [h]))
  exact this

end Cert.A2A
-- ==== Proof.Proto.lean ====
/-
The cross-device protocol, as one round on every semaphore cell of the kernel:

* `barCell c` (the runtime's barrier semaphore of device `c`): 32 duties, one per device `p`, of one unit. Device `p`
  pays it by its signal and hands over row block `c` of its own result, which device `c` will fill.
* `recvCell t d`: one duty, paid by device `d`'s copy to `t` (`d ≠ t`): row block `d` of `t`'s result, filled.
* `sendCell c t`: one duty, paid by the same copy on the sender's side (`t ≠ c`): the slice it read.

The cells of the weight copies are outside the rounds: each such copy is local, waited for before the next on its cell.
-/
module

public import proofs.«01_k».proof.Proof.Views

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the pipeline library's rounds, this protocol's rounds, the local copies' counters -/

abbrev UB : Type := URounds (GSem nD τ sig) (Fin 32)
abbrev UU : Type := UR sig nD τ × (UB × Counters)

local notation "𝕄" => MT nD τ sig Unit (Elt F) ℕ UU ℕ

abbrev EP : Emb (UR sig nD τ) (MT nD τ sig Unit (Elt F) ℕ UU ℕ) := embL
/-- This protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

/-! ## The cells -/

/-- The runtime's barrier semaphore. -/
abbrev barS : Sem sig := (SemArray.scalar (sig.barrier 0 rfl) : Sems sig S_).sem

/-- A device's cells under the rounds: barrier, send to `t`, receive from `d`. -/
abbrev CI : Type := Unit ⊕ (Fin 32 ⊕ Fin 32)

def sendQ (t : Fin 32) : DmaSem sig := ⟨4 + t.val, by have := t.isLt; show _ < 68; omega⟩
def recvQ (d : Fin 32) : DmaSem sig := ⟨36 + d.val, by have := d.isLt; show _ < 68; omega⟩
def copyQ (σ : Fin 2) : DmaSem sig := ⟨2 + σ.val, by have := σ.isLt; show _ < 68; omega⟩

def csem : CI → SemLoc sig
  | .inl _ => .reg barS
  | .inr (.inl t) => .dma (sendQ t)
  | .inr (.inr d) => .dma (recvQ d)

/-- Which of the protocol's cells a semaphore is. -/
def dec : SemLoc sig → Option CI
  | .reg _ => some (.inl ())
  | .dma q => if h : q.val < 4 then none else if h' : q.val < 36 then some (.inr (.inl ⟨q.val - 4, by omega⟩))
      else some (.inr (.inr ⟨q.val - 36, by have : q.val < 68 := q.isLt; omega⟩))

/-- `dec` recovers a cell from its semaphore, -/
theorem dec_csem (k : CI) : dec (csem k) = some k := by
  rcases k with _ | t | d
  · rfl
  · have := t.isLt
    exact (dif_neg (show ¬ 4 + t.val < 4 by omega)).trans ((dif_pos (show 4 + t.val < 36 by omega)).trans
      (congrArg (fun x => some (Sum.inr (Sum.inl x))) (Fin.ext (show 4 + t.val - 4 = t.val by omega))))
  · exact (dif_neg (show ¬ 36 + d.val < 4 by omega)).trans ((dif_neg (show ¬ 36 + d.val < 36 by omega)).trans
      (congrArg (fun x => some (Sum.inr (Sum.inr x))) (Fin.ext (show 36 + d.val - 36 = d.val by omega))))

/-- so different cells of a device have different semaphores, -/
theorem csem_injective : Function.Injective csem := fun a b h =>
  Option.some.inj ((dec_csem a).symm.trans ((congrArg dec h).trans (dec_csem b)))

abbrev kcell (ck : Dev nD × CI) : GSem nD τ sig := ((ck.1 : Thread nD τ), csem ck.2)
abbrev barCell (c : Dev nD) : GSem nD τ sig := ((c : Thread nD τ), .reg barS)
abbrev sendCell (c : Dev nD) (t : Fin 32) : GSem nD τ sig := ((c : Thread nD τ), .dma (sendQ t))
abbrev recvCell (t : Dev nD) (d : Fin 32) : GSem nD τ sig := ((t : Thread nD τ), .dma (recvQ d))
abbrev copyCell (c : Dev nD) (σ : Fin 2) : GSem nD τ sig := ((c : Thread nD τ), .dma (copyQ σ))

/-- and different cells of all devices are different. -/
theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  exact Prod.ext h1 (csem_injective h2)

/-- `dec` on the barrier semaphore, -/
theorem dec_bar : dec (SemLoc.reg barS) = some (.inl ()) := rfl
/-- on a send semaphore, -/
theorem dec_send (t : Fin 32) : dec (SemLoc.dma (sendQ t)) = some (.inr (.inl t)) := dec_csem (.inr (.inl t))
/-- on a receive semaphore, -/
theorem dec_recv (d : Fin 32) : dec (SemLoc.dma (recvQ d)) = some (.inr (.inr d)) := dec_csem (.inr (.inr d))
/-- and on a weight copy's, which is none of the protocol's. -/
theorem dec_copy (σ : Fin 2) : dec (SemLoc.dma (copyQ σ)) = none := by
  have := σ.isLt
  exact dif_pos (show 2 + σ.val < 4 by omega)

/-- A block's transfer credit. -/
abbrev N : ℕ := (oBlk 0).view.dmaCredit
/-- It is positive. -/
theorem N_pos : 0 < N := View.dmaCredit_pos _ (by decide +kernel)

/-! ## Points-tos of the pieces -/

section Pts
variable (c : Dev nD)

/-- Row block `b` of device `c`'s result. -/
def oPts (b : Fin 32) (f : (cc0_stg1_0 : Ref sig .tc).ty.Contents (Elt F)) : sProp 𝕄 :=
  (oBlk b).view.loc (c : Thread nD τ) ↦[(oBlk b).view.set]{fullShare} f
/-- Step `n`'s slice of device `c`'s staging scratch. -/
def gPts (n : Fin 32) (f : (cc0_scratch1 : Ref sig .tc).ty.Contents (Elt F)) : sProp 𝕄 :=
  (gBlk n).view.loc (c : Thread nD τ) ↦[(gBlk n).view.set]{fullShare} f
/-- Slab `s` of it. -/
def sPts (s : Fin 8) (f : (cc0_scratch1 : Ref sig .tc).ty.Contents (Elt F)) : sProp 𝕄 :=
  ((c : Thread nD τ).loc cc0_scratch1) ↦[sSet s]{fullShare} f
/-- Slot `σ` of device `c`'s weight scratch. -/
def bPts (σ : Fin 2) (f : (cc0_scratch0 : Ref sig .tc).ty.Contents (Elt F)) : sProp 𝕄 :=
  (bSlot σ).view.loc (c : Thread nD τ) ↦[(bSlot σ).view.set]{fullShare} f

omit [FloatOps F] in
instance oPts_storable (b) (f) : BI.Storable (upEmb : UEmb _ 𝕄) (oPts (F := F) c b f) := by unfold oPts; infer_instance
omit [FloatOps F] in
instance gPts_storable (n) (f) : BI.Storable (upEmb : UEmb _ 𝕄) (gPts (F := F) c n f) := by unfold gPts; infer_instance

omit [FloatOps F] in
/-- The result is its 32 row blocks. -/
theorem oPts_all (f : (cc0_stg1_0 : Ref sig .tc).ty.Contents (Elt F)) :
    (((c : Thread nD τ).loc cc0_stg1_0) ↦{fullShare} f : sProp 𝕄) = bigSep Finset.univ fun b => oPts c b f := by
  have := pointsTo_biUnion (Ix := Unit) (Name := ℕ) (U := UU) (Lvl := ℕ) (ℓ := (c : Thread nD τ).loc cc0_stg1_0) (q := fullShare) (f := f) Finset.univ oSet
    (fun p _ q _ h => oSet_disj p q h)
  exact (congrArg (fun S => (((c : Thread nD τ).loc cc0_stg1_0) ↦[S]{fullShare} f : sProp 𝕄)) oSet_cover).trans this

omit [FloatOps F] in
/-- The staging scratch is its 8 slabs, -/
theorem sPts_all (f : (cc0_scratch1 : Ref sig .tc).ty.Contents (Elt F)) :
    (((c : Thread nD τ).loc cc0_scratch1) ↦{fullShare} f : sProp 𝕄) = bigSep Finset.univ fun s => sPts c s f := by
  have := pointsTo_biUnion (Ix := Unit) (Name := ℕ) (U := UU) (Lvl := ℕ) (ℓ := (c : Thread nD τ).loc cc0_scratch1) (q := fullShare) (f := f) Finset.univ sSet
    (fun p _ q _ h => sSet_disj p q h)
  exact (congrArg (fun S => (((c : Thread nD τ).loc cc0_scratch1) ↦[S]{fullShare} f : sProp 𝕄)) sSet_cover).trans this

omit [FloatOps F] in
/-- and its 32 slices; -/
theorem gPts_all (f : (cc0_scratch1 : Ref sig .tc).ty.Contents (Elt F)) :
    (((c : Thread nD τ).loc cc0_scratch1) ↦{fullShare} f : sProp 𝕄) = bigSep Finset.univ fun n => gPts c n f := by
  have := pointsTo_biUnion (Ix := Unit) (Name := ℕ) (U := UU) (Lvl := ℕ) (ℓ := (c : Thread nD τ).loc cc0_scratch1) (q := fullShare) (f := f) Finset.univ gSet
    (fun p _ q _ h => gSet_disj p q h)
  exact (congrArg (fun S => (((c : Thread nD τ).loc cc0_scratch1) ↦[S]{fullShare} f : sProp 𝕄)) gSet_cover).trans this

omit [FloatOps F] in
/-- a slab is its four slices. -/
theorem sPts_slices (s : Fin 8) (f : (cc0_scratch1 : Ref sig .tc).ty.Contents (Elt F)) :
    (sPts c s f : sProp 𝕄) = bigSep Finset.univ fun j => gPts c (sliceOf s j) f := by
  have := pointsTo_biUnion (Ix := Unit) (Name := ℕ) (U := UU) (Lvl := ℕ) (ℓ := (c : Thread nD τ).loc cc0_scratch1) (q := fullShare) (f := f) Finset.univ (fun j => gSet (sliceOf s j))
    (fun p _ q _ h => gSet_disj _ _ (fun e => h (Fin.ext (by have := congrArg Fin.val e; simp only [sliceOf] at this; omega))))
  unfold sPts
  exact (congrArg (fun S => (((c : Thread nD τ).loc cc0_scratch1) ↦[S]{fullShare} f : sProp 𝕄)) (sSet_slices s)).trans this

omit [FloatOps F] in
/-- The weight scratch is its two slots. -/
theorem bPts_all (f : (cc0_scratch0 : Ref sig .tc).ty.Contents (Elt F)) :
    (((c : Thread nD τ).loc cc0_scratch0) ↦{fullShare} f : sProp 𝕄) = bigSep Finset.univ fun σ => bPts c σ f := by
  have := pointsTo_biUnion (Ix := Unit) (Name := ℕ) (U := UU) (Lvl := ℕ) (ℓ := (c : Thread nD τ).loc cc0_scratch0) (q := fullShare) (f := f) Finset.univ bSet
    (fun p _ q _ h => bSet_disj p q h)
  exact (congrArg (fun S => (((c : Thread nD τ).loc cc0_scratch0) ↦[S]{fullShare} f : sProp 𝕄)) bSet_cover).trans this

end Pts

/-! ## The schedule -/

variable (m : (ℓ : Loc nD τ sig) → Buf (Elt F) ℓ)

/-- Who pays a cell of device `c`: everyone the barrier, one duty on every other cell but the device's own two. -/
def payers (c : Dev nD) : Option CI → Finset (Fin 32)
  | some (.inl _) => Finset.univ
  | some (.inr (.inl t)) => if t = c then ∅ else {0}
  | some (.inr (.inr d)) => if d = c then ∅ else {0}
  | none => ∅

/-- What one duty pays. -/
def amt : Option CI → ℕ
  | some (.inl _) => 1
  | _ => N

/-- Every duty pays something. -/
theorem amt_pos (k : Option CI) : 0 < amt k := by
  rcases k with _ | _ | _
  · exact N_pos
  · exact Nat.one_pos
  · exact N_pos

/-- What a duty hands over. -/
def pay (c : Dev nD) (p : Fin 32) : Option CI → sProp 𝕄
  | some (.inl _) => iprop(∃ f, oPts p c f)
  | some (.inr (.inl t)) => gPts c (stp c t) (stgAt m c)
  | some (.inr (.inr d)) => oPts c d (outAt m c)
  | none => iprop(emp)

instance pay_storable (c : Dev nD) (p : Fin 32) (k : Option CI) : BI.Storable (upEmb : UEmb _ 𝕄) (pay (F := F) m c p k) := by
  rcases k with _ | _ | _ | _ <;> unfold pay <;> infer_instance

/-- The protocol's one round. -/
def a2a : Rounds.Schedule (GSem nD τ sig) (Fin 32) 𝕄 where
  duties g r := if r = 0 ∧ g.1.2 = .tc then payers g.1.1 (dec g.2) else ∅
  unitless _ := False
  amount g _ _ := amt (dec g.2)
  payload g _ p := pay m g.1.1 p (dec g.2)
  amount_pos g _ _ _ := amt_pos (dec g.2)

instance a2a_payload_storable (g : GSem nD τ sig) (r : ℕ) (p : Fin 32) :
    BI.Storable (upEmb : UEmb _ 𝕄) ((a2a (F := F) m).payload g r p) := by
  show BI.Storable (upEmb : UEmb _ 𝕄) (pay m g.1.1 p (dec g.2))
  infer_instance

section Sched
variable (c : Dev nD)

/-- The duties of a cell in round 0 are its payers. -/
theorem duties_at (k : CI) : (a2a m).duties (kcell (c, k)) 0 = payers c (some k) := by
  show (if 0 = 0 ∧ (kcell (c, k)).1.2 = .tc then payers c (dec (csem k)) else ∅) = _
  rw [if_pos ⟨rfl, rfl⟩, dec_csem]
/-- The barrier cell has a duty for every device, -/
theorem duties_bar : (a2a m).duties (barCell c) 0 = Finset.univ := duties_at m c (.inl ())
/-- a send cell one, unless its target is the device itself, -/
theorem duties_send (t : Fin 32) : (a2a m).duties (sendCell c t) 0 = if t = c then ∅ else {0} := duties_at m c (.inr (.inl t))
/-- and so a receive cell. -/
theorem duties_recv (d : Fin 32) : (a2a m).duties (recvCell c d) 0 = if d = c then ∅ else {0} := duties_at m c (.inr (.inr d))
/-- No cell has a duty after round 0. -/
theorem duties_later (g : GSem nD τ sig) : ∀ r, 1 ≤ r → (a2a m).duties g r = ∅ :=
  fun r hr => if_neg fun h => by have := h.1; omega
/-- A device's send and receive cells for itself are never used. -/
theorem duties_own_send : ∀ r, 0 ≤ r → (a2a m).duties (sendCell c c) r = ∅ := fun r _ => by
  rcases Nat.eq_zero_or_pos r with rfl | h
  · rw [duties_send, if_pos rfl]
  · exact duties_later m _ r h
/-- Nor is its receive cell for itself. -/
theorem duties_own_recv : ∀ r, 0 ≤ r → (a2a m).duties (recvCell c c) r = ∅ := fun r _ => by
  rcases Nat.eq_zero_or_pos r with rfl | h
  · rw [duties_recv, if_pos rfl]
  · exact duties_later m _ r h

/-- A barrier duty pays one unit, -/
theorem amount_bar (p : Fin 32) : (a2a m).amount (barCell c) 0 p = 1 := congrArg amt dec_bar
/-- a send duty a block's credit, -/
theorem amount_send (t : Fin 32) (p : Fin 32) : (a2a m).amount (sendCell c t) 0 p = N := congrArg amt (dec_send t)
/-- and so a receive duty. -/
theorem amount_recv (d : Fin 32) (p : Fin 32) : (a2a m).amount (recvCell c d) 0 p = N := congrArg amt (dec_recv d)

/-- So the barrier cell expects 32 units, -/
theorem expect_bar : (a2a m).expect (barCell c) 0 = 32 := by
  unfold Schedule.expect Schedule.amountOf
  rw [duties_bar, Finset.sum_congr rfl fun d _ => amount_bar m c d, Finset.sum_const, Finset.card_univ, Fintype.card_fin, smul_eq_mul]
/-- a send cell a block's credit, -/
theorem expect_send (t : Fin 32) (h : t ≠ c) : (a2a m).expect (sendCell c t) 0 = N := by
  unfold Schedule.expect Schedule.amountOf; rw [duties_send, if_neg h, Finset.sum_singleton, amount_send]
/-- and so a receive cell. -/
theorem expect_recv (d : Fin 32) (h : d ≠ c) : (a2a m).expect (recvCell c d) 0 = N := by
  unfold Schedule.expect Schedule.amountOf; rw [duties_recv, if_neg h, Finset.sum_singleton, amount_recv]

/-- A barrier duty hands over a row block of the payer's result, at any contents, -/
theorem payload_bar (p : Fin 32) : (a2a m).payload (barCell c) 0 p = iprop(∃ f, oPts p c f) := congrArg (pay m c p) dec_bar
/-- a send duty the staged slice that was read, -/
theorem payload_send (t p : Fin 32) : (a2a m).payload (sendCell c t) 0 p = gPts c (stp c t) (stgAt m c) :=
  congrArg (pay m c p) (dec_send t)
/-- and a receive duty the row block filled. -/
theorem payload_recv (d p : Fin 32) : (a2a m).payload (recvCell c d) 0 p = oPts c d (outAt m c) :=
  congrArg (pay m c p) (dec_recv d)

/-- All of a barrier's round: row block `c` of every device's result. -/
theorem rest_bar : bigSep ((a2a m).duties (barCell c) 0 \ ∅) (fun p => (a2a m).payload (barCell c) 0 p)
    = bigSep Finset.univ fun p : Fin 32 => (iprop(∃ f, oPts p c f) : sProp 𝕄) := by
  rw [Finset.sdiff_empty, duties_bar]
  exact bigSep_congr fun p _ => payload_bar m c p
/-- So the whole of a send cell's round hands over that slice, -/
theorem rest_send (t : Fin 32) (h : t ≠ c) : bigSep ((a2a m).duties (sendCell c t) 0 \ ∅) (fun p => (a2a m).payload (sendCell c t) 0 p)
    = gPts c (stp c t) (stgAt m c) := by
  rw [Finset.sdiff_empty, duties_send, if_neg h, bigSep_singleton, payload_send]
/-- and the whole of a receive cell's round that row block. -/
theorem rest_recv (d : Fin 32) (h : d ≠ c) : bigSep ((a2a m).duties (recvCell c d) 0 \ ∅) (fun p => (a2a m).payload (recvCell c d) 0 p)
    = oPts c d (outAt m c) := by
  rw [Finset.sdiff_empty, duties_recv, if_neg h, bigSep_singleton, payload_recv]

end Sched

/-! ## Resources and sums taken one index at a time -/

section Mix
variable {n : ℕ}

/-- `A` at the indices from `k` on, `B` at those before. -/
def mix (A B : Fin n → sProp 𝕄) (k : ℕ) : sProp 𝕄 := bigSep Finset.univ fun i => if i.val < k then B i else A i

omit [FloatOps F] in
/-- At 0 `mix` is all of `A`, -/
theorem mix_zero (A B : Fin n → sProp 𝕄) : mix A B 0 = bigSep Finset.univ A :=
  bigSep_congr fun i _ => if_neg (Nat.not_lt_zero _)
omit [FloatOps F] in
/-- and at the end all of `B`. -/
theorem mix_end (A B : Fin n → sProp 𝕄) {k : ℕ} (h : n ≤ k) : mix A B k = bigSep Finset.univ B :=
  bigSep_congr fun i _ => if_pos (Nat.lt_of_lt_of_le i.isLt h)
omit [FloatOps F] in
/-- The next index: its `A` out, its `B` back. -/
theorem mix_step (A B : Fin n → sProp 𝕄) (i : Fin n) : mix A B i.val ⊢ iprop(A i ∗ (B i -∗ mix A B (i.val + 1))) := by
  have := bigSep_univ_update (Φ := fun j : Fin n => if j.val < i.val then B j else A j)
    (Ψ := fun j : Fin n => if j.val < i.val + 1 then B j else A j) i (fun j hj => by
      have hne : j.val ≠ i.val := fun e => hj (Fin.ext e)
      by_cases h : j.val < i.val
      · rw [if_pos h, if_pos (by omega)]
      · rw [if_neg h, if_neg (by omega)])
  rw [if_neg (Nat.lt_irrefl _), if_pos (Nat.lt_succ_self _)] at this
  exact this

/-- The sum over the indices from `k` on. -/
def tail {M : Type} [AddCommMonoid M] (f : Fin n → M) (k : ℕ) : M := ∑ i : Fin n, if k ≤ i.val then f i else 0

/-- Past the end the sum is zero, -/
theorem tail_end {M : Type} [AddCommMonoid M] (f : Fin n → M) {k : ℕ} (h : n ≤ k) : tail f k = 0 :=
  Finset.sum_eq_zero fun i _ => if_neg (by have := i.isLt; omega)
/-- from 0 on it is the whole sum, -/
theorem tail_zero {M : Type} [AddCommMonoid M] (f : Fin n → M) : tail f 0 = ∑ i, f i :=
  Finset.sum_congr rfl fun i _ => if_pos (Nat.zero_le _)
/-- and it loses one term at each step. -/
theorem tail_step {M : Type} [AddCommMonoid M] (f : Fin n → M) (i : Fin n) : tail f i.val = tail f (i.val + 1) + f i := by
  unfold tail
  rw [← Finset.sum_erase_add _ _ (Finset.mem_univ i), if_pos le_rfl, ← Finset.sum_erase_add (f := fun j : Fin n => if i.val + 1 ≤ j.val then f j else 0) _ (Finset.mem_univ i),
    if_neg (by omega), add_zero]
  refine congrArg (· + f i) (Finset.sum_congr rfl fun j hj => ?_)
  have hne : j.val ≠ i.val := fun e => Finset.ne_of_mem_erase hj (Fin.ext e)
  by_cases h : i.val ≤ j.val
  · rw [if_pos h, if_pos (by omega)]
  · rw [if_neg h, if_neg (by omega)]

end Mix

/-! ## What each device owes at launch; the levels -/

/-- Step `n`'s receive credit at its target, unless the target is the device itself. -/
def rem (c n : Fin 32) : CellTallies nD τ sig Unit := if tgt c n = c then 0 else tallyAt (recvCell (tgt c n) c) () N
/-- The receive credits of the steps from `k` on, -/
def Orem (c : Dev nD) (k : ℕ) : CellTallies nD τ sig Unit := tail (rem c) k
/-- the barrier units of the signals from `k` on, -/
def Obar (k : ℕ) : CellTallies nD τ sig Unit := tail (fun d : Fin 32 => tallyAt (barCell d) () 1) k
/-- and the two together. -/
def O₀ (c : Dev nD) : CellTallies nD τ sig Unit := Orem c 0 + Obar 0

def L (g : GSem nD τ sig) : Finset Unit := if g.1.2 = .tc then {()} else ∅
/-- Barrier cells at 1, receive cells at 2, everything else at 0. -/
def lv (g : GSem nD τ sig) (_ : Unit) : ℕ := match dec g.2 with
  | some (.inl _) => 1
  | some (.inr (.inr _)) => 2
  | _ => 0

/-- Only the kernel's threads have labels, -/
theorem L_of_ne (g : GSem nD τ sig) (h : g.1.2 ≠ .tc) : L g = ∅ := if_neg h
/-- and each of their cells has the one label. -/
theorem L_tc (c : Dev nD) (sm : SemLoc sig) : L ((c : Thread nD τ), sm) = {()} := if_pos rfl
/-- A barrier cell is at level 1, -/
theorem lv_bar (c : Dev nD) : lv (barCell c) () = 1 := by unfold lv; rw [dec_bar]
/-- a receive cell at level 2. -/
theorem lv_recv (c : Dev nD) (d : Fin 32) : lv (recvCell c d) () = 2 := by unfold lv; rw [dec_recv]

/-- Where a sum from `k` on owes something, one of its terms does. -/
theorem tail_pos {n : ℕ} (f : Fin n → CellTallies nD τ sig Unit) (k : ℕ) {g : GSem nD τ sig} {u : Unit} (h : 0 < tail f k g u) :
    ∃ i, 0 < f i g u := by
  unfold tail at h
  rw [Finset.sum_apply, Finsupp.finset_sum_apply] at h
  obtain ⟨i, _, hi⟩ := Finset.exists_ne_zero_of_sum_ne_zero (Nat.ne_of_gt h)
  refine ⟨i, Nat.pos_of_ne_zero fun hz => hi ?_⟩
  by_cases hk : k ≤ i.val
  · rw [if_pos hk]; exact hz
  · rw [if_neg hk]; rfl

/-- A debt at a cell is a debt at no other. -/
theorem tallyAt_pos {a g : GSem nD τ sig} {k : ℕ} {u : Unit} (h : 0 < tallyAt a () k g u) : g = a := by
  rw [tallyAt_apply] at h
  by_contra hn
  rw [if_neg (fun h' => hn h'.1)] at h
  exact Nat.lt_irrefl 0 h

/-- What is still owed to steps is owed to receive cells, -/
theorem Orem_pos {c : Dev nD} {k : ℕ} {g : GSem nD τ sig} {u : Unit} (h : 0 < Orem c k g u) : ∃ t d, g = recvCell t d := by
  obtain ⟨n, hn⟩ := tail_pos _ _ h
  unfold rem at hn
  by_cases ht : tgt c n = c
  · rw [if_pos ht] at hn; exact absurd hn (Nat.lt_irrefl 0)
  · rw [if_neg ht] at hn; exact ⟨_, _, tallyAt_pos hn⟩
/-- what is owed to signals to barrier cells. -/
theorem Obar_pos {k : ℕ} {g : GSem nD τ sig} {u : Unit} (h : 0 < Obar k g u) : ∃ t, g = barCell t := by
  obtain ⟨n, hn⟩ := tail_pos _ _ h
  exact ⟨_, tallyAt_pos hn⟩
/-- At entry a device owes at receive cells and barrier cells only. -/
theorem O₀_pos {c : Dev nD} {g : GSem nD τ sig} {u : Unit} (h : 0 < O₀ c g u) : (∃ t d, g = recvCell t d) ∨ ∃ t, g = barCell t := by
  unfold O₀ at h
  rw [Pi.add_apply, Finsupp.add_apply] at h
  rcases Nat.eq_zero_or_pos (Orem c 0 g u) with h0 | h0
  · exact .inr (Obar_pos (by rwa [h0, Nat.zero_add] at h))
  · exact .inl (Orem_pos h0)

omit [FloatOps F] in
/-- A device may wait on a cell below everything it owes. -/
theorem mayWait_below (c : Dev nD) (sm : SemLoc sig) (O : CellTallies nD τ sig Unit)
    (hO : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by
      have : L g = {()} := if_pos (hO g u hg).1
      rw [this]; exact Finset.mem_singleton_self _)
    (fun p hp => by rw [Finset.mem_singleton.mp hp])
    (fun g u hg => (hO g u hg).2)

omit [FloatOps F] in
/-- Its barrier, and any cell of level 0, while it owes receive credits only; -/
theorem mayWait_rem (c : Dev nD) (sm : SemLoc sig) (h : lv ((c : Thread nD τ), sm) () < 2) (k : ℕ) :
    (levAts L lv : sProp 𝕄) ⊢ MayWait (c : Thread nD τ) sm () (Orem c k) :=
  mayWait_below c sm _ fun g u hg => by
    obtain ⟨t, d, rfl⟩ := Orem_pos hg
    exact ⟨rfl, by rw [lv_recv]; exact h⟩
omit [FloatOps F] in
/-- any cell once it owes nothing; -/
theorem mayWait_none (c : Dev nD) (sm : SemLoc sig) : (levAts L lv : sProp 𝕄) ⊢ MayWait (c : Thread nD τ) sm () 0 :=
  mayWait_below c sm _ fun g u hg => absurd hg (Nat.lt_irrefl 0)
omit [FloatOps F] in
/-- a cell of level 0 at any time. -/
theorem mayWait_all (c : Dev nD) (sm : SemLoc sig) (h : lv ((c : Thread nD τ), sm) () = 0) :
    (levAts L lv : sProp 𝕄) ⊢ MayWait (c : Thread nD τ) sm () (O₀ c) :=
  mayWait_below c sm _ fun g u hg => by
    rcases O₀_pos hg with ⟨t, d, rfl⟩ | ⟨t, rfl⟩
    · exact ⟨rfl, by rw [lv_recv, h]; decide⟩
    · exact ⟨rfl, by rw [lv_bar, h]; decide⟩

end Cert.A2A
-- ==== Proof.Steps.lean ====
/-
One step `n` of device `c`: the slice of the staging scratch that step `n` names goes to its target's row block, by a
store when the target is the device itself (`ownProg`), by a remote copy otherwise (`sendProg`).
-/
module

public import proofs.«01_k».proof.Proof.Proto

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- Programs of the kernel's body. -/
abbrev KProg (F : FTy → Type) [FloatOps F] (α : Type) : Type _ := Prog (TpuEff nD τ sig (Elt F) Λ₀ .tc) α

/-- The weakest precondition at device `c`'s core. -/
abbrev WP (c : Dev nD) {α : Type} (p : KProg F α) (Q : α → sProp 𝕄) : sProp 𝕄 :=
  wp frame (wpE (defs₀ (F := F)) 𝒱₀ (c : Thread nD τ) none) Set.univ p Q

/-! ## The semaphores the programs name -/

/-- Every device's place in the semaphore arrays is in bounds, -/
theorem inb_q (t : Fin 32) : ∀ a, (![t.val] : Fin 1 → ℕ) a + S1.size a ≤ S32.size a := by revert t; decide +kernel
/-- and so is every slot's. -/
theorem inb_c (σ : Fin 2) : ∀ a, (![σ.val] : Fin 1 → ℕ) a + S1.size a ≤ S2.size a := by revert σ; decide +kernel

abbrev sendAt (o : Fin 1 → ℕ) (h : ∀ a, o a + S1.size a ≤ S32.size a) : DmaSem sig :=
  ((cc0_scratch3.slice (Rect.unit (s := S32) o S1.size h)).squeeze S_ squeezes_S1_S_).sem
abbrev recvAt (o : Fin 1 → ℕ) (h : ∀ a, o a + S1.size a ≤ S32.size a) : DmaSem sig :=
  ((cc0_scratch4.slice (Rect.unit (s := S32) o S1.size h)).squeeze S_ squeezes_S1_S_).sem
abbrev copyAt (o : Fin 1 → ℕ) (h : ∀ a, o a + S1.size a ≤ S2.size a) : DmaSem sig :=
  ((cc0_scratch2.slice (Rect.unit (s := S2) o S1.size h)).squeeze S_ squeezes_S1_S_).sem

/-- The send semaphore at place `t` is `sendQ t`, -/
theorem sendAt_eq (t : Fin 32) : sendAt ![t.val] (inb_q t) = sendQ t := by revert t; decide +kernel
/-- the receive semaphore `recvQ t`, -/
theorem recvAt_eq (t : Fin 32) : recvAt ![t.val] (inb_q t) = recvQ t := by revert t; decide +kernel
/-- and a slot's copy semaphore `copyQ σ`. -/
theorem copyAt_eq (σ : Fin 2) : copyAt ![σ.val] (inb_c σ) = copyQ σ := by revert σ; decide +kernel

/-! ## The records -/

section Steps

variable (m : (ℓ : Loc nD τ sig) → Buf (Elt F) ℓ) (K : Dev nD × CI → ℕ)

/-- Every cell's invariant, under the names the launch allocated, and that every cell is at round 0. -/
def records : sProp 𝕄 :=
  iprop((bigSep Finset.univ fun ck : Dev nD × CI => cellInv ER (a2a m) (K ck) (kcell ck))
    ∗ bigSep Finset.univ fun ck : Dev nD × CI => reached ER (kcell ck) 0)

instance records_persistent : BI.Persistent (records m K) := by unfold records; infer_instance

/-- All invariants hold each one, -/
theorem inv_at (ck : Dev nD × CI) :
    (bigSep Finset.univ fun ck : Dev nD × CI => (cellInv ER (a2a m) (K ck) (kcell ck) : sProp 𝕄)) ⊢ cellInv ER (a2a m) (K ck) (kcell ck) :=
  bigSep_elim (Finset.mem_univ ck)
/-- and all rounds reached each one. -/
theorem reached_at (ck : Dev nD × CI) :
    (bigSep Finset.univ fun ck : Dev nD × CI => (reached ER (kcell ck) 0 : sProp 𝕄)) ⊢ reached ER (kcell ck) 0 :=
  bigSep_elim (Finset.mem_univ ck)
/-- The records hold every cell's invariant, -/
theorem records_inv (ck : Dev nD × CI) : records m K ⊢ cellInv ER (a2a m) (K ck) (kcell ck) := by
  unfold records
  iintro ⟨H, -⟩
  iapply (inv_at m K ck) $$ H
/-- and that every cell is at round 0. -/
theorem records_reached (ck : Dev nD × CI) : records m K ⊢ reached ER (kcell ck) 0 := by
  unfold records
  iintro ⟨-, H⟩
  iapply (reached_at (F := F) ck) $$ H

/-! ## A step's resources -/

/-- Before the step: the target's row block, and the two duties the copy pays. -/
def pend (c n : Fin 32) : sProp 𝕄 :=
  iprop((∃ f, oPts (tgt c n) c f) ∗ dutyTok ER (recvCell (tgt c n) c) 0 0 ∗ dutyTok ER (sendCell c (tgt c n)) 0 0)
/-- After it: the row block computed, for the device's own; the credit of the copy's sending side otherwise. -/
def done (c n : Fin 32) : sProp 𝕄 :=
  if tgt c n = c then iprop(oPts c c (outAt m c) ∗ gPts c n (stgAt m c)) else cred (tallyAt (sendCell c (tgt c n)) () N)
/-- Between the store and the copy. -/
def mid (c n : Fin 32) : sProp 𝕄 := if tgt c n = c then done m c n else iprop(gPts c n (stgAt m c) ∗ pend c n)

/-! ## The store of the device's own slice -/

/-- The printed store of a slice into a row block, when `b`. -/
def ownProg (b : BitVec 1) (o₁ : Fin 3 → ℕ) (o₂ : Fin 2 → ℕ) (h₁ : b = 1#1 → ∀ a, o₁ a + S1x256x128.size a ≤ S8x256x512.size a)
    (h₂ : b = 1#1 → ∀ a, o₂ a + S256x128.size a ≤ S8192x128.size a) : KProg F PUnit :=
  if h : b = 1#1 then do
    let v187 : Vec F S1x256x128 .f32 ← Prog.lift (.load gM (Rect.unit (s := S8x256x512) o₁ S1x256x128.size (h₁ h)).toLoadRect (View.loadsAt_vmem h_S1x256x128))
    let v191 : Vec F S256x128 .f32 ← Prog.lift (.load oM (Rect.unit (s := S8192x128) o₂ S256x128.size (h₂ h)).toLoadRect (View.loadsAt_vmem h_S256x128))
    Prog.lift (.store oM (Rect.unit (s := S8192x128) o₂ S256x128.size (h₂ h)) (k0_pay2 v187) Finset.univ (View.stores_vmem_bits_univ h_S256x128 rfl) (.inl rfl))
    pure ⟨⟩
  else do
    pure ⟨⟩

/-- The local store, at a step whose target is the device itself, fills the device's own row block; at any other it does nothing. -/
theorem wp_own (c n : Fin 32) {b : BitVec 1} {o₁ : Fin 3 → ℕ} {o₂ : Fin 2 → ℕ} {h₁ h₂}
    (hb : b = 1#1 ↔ tgt c n = c) (e₁ : o₁ = ![n.val / 4, 0, 128 * (n.val % 4)]) (e₂ : o₂ = ![256 * c.val, 0])
    {α : Type} (k : PUnit → KProg F α) (Q : α → sProp 𝕄) :
    iprop(gPts c n (stgAt m c) ∗ pend c n) ⊢ iprop((mid m c n -∗ WP c (k ⟨⟩) Q) -∗ WP c (ownProg b o₁ o₂ h₁ h₂ >>= k) Q) := by
  subst e₁ e₂
  unfold ownProg mid done
  by_cases h : tgt c n = c
  · rw [dif_pos (hb.mpr h), if_pos h, if_pos h]
    simp only [Prog.lift, Prog.bind_op, Prog.bind_ret, Prog.pure_eq_ret]
    have hp : (pend c n : sProp 𝕄) ⊢ iprop(∃ f, oPts c c f) := by
      unfold pend; rw [h]
      iintro ⟨H, -, -⟩; iexact H
    refine (sep_mono_right hp).trans ?_
    unfold oPts gPts
    iintro ⟨Hg, ⟨%f, Ho⟩⟩ Hk
    iapply (wp_load 𝒱₀ (c : Thread nD τ) none Set.univ (m := gM) (by
      exact (show gM.view.setOn (gRect n).set ⊆ gSet n by rw [gSet_eq]; exact Finset.map_refl.subset))) $$ Hg
    iintro Hg
    iapply (wp_load 𝒱₀ (c : Thread nD τ) none Set.univ (m := oM) (by
      exact (show oM.view.setOn (oRect c).set ⊆ oSet c by rw [oSet_eq]; exact Finset.map_refl.subset))) $$ Ho
    iintro Ho
    iapply (wp_store 𝒱₀ (c : Thread nD τ) none Set.univ (m := oM) (r := oRect c) (Mk := Finset.univ) (S := oSet c) (Finset.Subset.refl _)) $$ Ho
    iintro Ho
    ihave Ho' := (Entails.of_eq (pointsTo_congr (blk_store m c n h f))) $$ Ho
    iapply Hk
    isplitl [Ho']; · iexact Ho'
    iexact Hg
  · rw [dif_neg (fun hh => h (hb.mp hh)), if_neg h]
    simp only [Prog.bind_ret, Prog.pure_eq_ret]
    iintro H Hk
    iapply Hk
    iexact H

/-! ## The copy of a slice to another device -/

/-- The printed copy of a slice into device `dv`'s row block, when `b`. -/
def sendProg (b : BitVec 1) (dv : ℕ) (o₁ o₂ : Fin 1 → ℕ) (o₃ : Fin 2 → ℕ) (o₄ : Fin 3 → ℕ) (hd : b = 1#1 → dv < nD)
    (h₁ : b = 1#1 → ∀ a, o₁ a + S1.size a ≤ S32.size a) (h₂ : b = 1#1 → ∀ a, o₂ a + S1.size a ≤ S32.size a)
    (h₃ : b = 1#1 → ∀ a, o₃ a + S256x128.size a ≤ S8192x128.size a) (h₄ : b = 1#1 → ∀ a, o₄ a + S1x256x128.size a ≤ S8x256x512.size a) : KProg F PUnit :=
  if h : b = 1#1 then do
    Prog.lift (.enqueueDma ((gM.slice (Rect.unit (s := S8x256x512) o₄ S1x256x128.size (h₄ h)) (fun _ => rfl)).squeeze S256x128 squeezes_S1x256x128_S256x128)
      (.remote (Dev.tc (⟨dv, hd h⟩ : Dev nD)) (oM.slice (Rect.unit (s := S8192x128) o₃ S256x128.size (h₃ h)) (fun _ => rfl)) (.dma (sendAt o₁ (h₁ h))))
      (.dma (recvAt o₂ (h₂ h))) ((View.wordExact_bits rfl).reshape _ _) (View.wordExact_bits rfl) ⟨⟨rfl, Or.inl rfl⟩, trivial⟩)
    pure ⟨⟩
  else do
    pure ⟨⟩

/-- Every row block's credit is the same. -/
theorem credit_eq (c : Fin 32) : (oBlk c).view.dmaCredit = N := rfl

/-- The copy's rule at the rounds: the send and receive semaphores given as the cells they are. -/
theorem wp_send_block (c n : Fin 32) (h : tgt c n ≠ c) {qs qr : DmaSem sig} (es : qs = sendQ (tgt c n)) (er : qr = recvQ c)
    {hsc : (oBlk c).view.ref.isScScratch = false} {hsrc : (gBlk n).view.WordExact} {hdst : (oBlk c).view.WordExact}
    {hsem : DmaTarget.Typed .vmem (.dma qr) (.remote (Dev.tc (tgt c n) : Thread nD τ) (oBlk c) (.dma qs) hsc)}
    {α : Type} (k : PUnit → KProg F α) (Q : α → sProp 𝕄) (f : (cc0_stg1_0 : Ref sig .tc).ty.Contents (Elt F)) (W : Waits sig Unit) :
    iprop(cellInv ER (a2a m) (K (c, .inr (.inl (tgt c n)))) (sendCell c (tgt c n)) ∗ cellInv ER (a2a m) (K (tgt c n, .inr (.inr c))) (recvCell (tgt c n) c)
        ∗ gPts c n (stgAt m c) ∗ oPts (tgt c n) c f ∗ owes (c : Thread nD τ) (Orem c n.val) W
        ∗ dutyTok ER (sendCell c (tgt c n)) 0 0 ∗ reached ER (sendCell c (tgt c n)) 0
        ∗ dutyTok ER (recvCell (tgt c n) c) 0 0 ∗ reached ER (recvCell (tgt c n) c) 0)
      ⊢ iprop(((cred (tallyAt (sendCell c (tgt c n)) () N) ∗ owes (c : Thread nD τ) (Orem c (n.val + 1)) W) -∗ WP c (k ⟨⟩) Q)
          -∗ WP c (.op (.enqueueDma (gBlk n) (.remote (Dev.tc (tgt c n) : Thread nD τ) (oBlk c) (.dma qs) hsc) (.dma qr) hsrc hdst hsem) k) Q) := by
  subst es er
  have hc : c ≠ tgt c n := fun e => h e.symm
  unfold gPts oPts
  have hd₁ : (0 : Fin 32) ∈ (a2a m).duties (sendCell c (tgt c n)) 0 := by rw [duties_send, if_neg h]; exact Finset.mem_singleton_self _
  have hd₂ : (0 : Fin 32) ∈ (a2a m).duties (recvCell (tgt c n) c) 0 := by rw [duties_recv, if_neg hc]; exact Finset.mem_singleton_self _
  have hO : Orem c n.val = Orem c (n.val + 1) + tallyAt (recvCell (tgt c n) c) () N := by
    unfold Orem; rw [tail_step]; congr 1; unfold rem; rw [if_neg h]
  have hp₁ : ((gBlk n).view.loc (c : Thread nD τ) ↦[(gBlk n).view.set]{fullShare} stgAt m c : sProp 𝕄)
      ⊢ (a2a m).payload (sendCell c (tgt c n)) 0 0 := by rw [payload_send, stp_tgt]; unfold gPts; exact BI.Entails.refl _
  have hp₂ : ((oBlk c).view.loc (tgt c n : Thread nD τ) ↦[(oBlk c).view.set]{fullShare}
        ((oBlk c).view.write (Elt F) f ((gBlk n).view.read (Elt F) (stgAt m c)) Finset.univ) : sProp 𝕄)
      ⊢ (a2a m).payload (recvCell (tgt c n) c) 0 0 := by
    rw [payload_recv]; unfold oPts; exact Entails.of_eq (pointsTo_congr (blk_copy m c n f))
  exact Rounds.wp_send_pointsTo 𝒱₀ ER (a2a m) (c : Thread nD τ) none (c' := (tgt c n : Thread nD τ)) (src := gBlk n) (dst := oBlk c)
    (sS := .dma (sendQ (tgt c n))) (sem := .dma (recvQ c)) (κ₁ := K (c, .inr (.inl (tgt c n)))) (κ₂ := K (tgt c n, .inr (.inr c)))
    (r₁ := 0) (r₂ := 0) (d₁ := (0 : Fin 32)) (d₂ := (0 : Fin 32)) (fs := stgAt m c) (fd := f) hd₁ hd₂
    () () N (credit_eq c) (amount_send m c (tgt c n) 0) (amount_recv m (tgt c n) c 0) (Orem c (n.val + 1)) hO (W := W) hp₁ hp₂

/-- The remote copy, at a step whose target is another device, pays the target's receive duty and the device's send duty; at any other step it does nothing. -/
theorem wp_send (c n : Fin 32) {b : BitVec 1} {dv : ℕ} {o₁ o₂ : Fin 1 → ℕ} {o₃ : Fin 2 → ℕ} {o₄ : Fin 3 → ℕ} {hd h₁ h₂ h₃ h₄}
    (hb : b = 1#1 ↔ tgt c n ≠ c) (ed : dv = (tgt c n).val) (e₁ : o₁ = ![(tgt c n).val]) (e₂ : o₂ = ![c.val]) (e₃ : o₃ = ![256 * c.val, 0])
    (e₄ : o₄ = ![n.val / 4, 0, 128 * (n.val % 4)]) {α : Type} (k : PUnit → KProg F α) (Q : α → sProp 𝕄) (W : Waits sig Unit) :
    iprop(records m K ∗ mid m c n ∗ owes (c : Thread nD τ) (Orem c n.val) W)
      ⊢ iprop(((done m c n ∗ owes (c : Thread nD τ) (Orem c (n.val + 1)) W) -∗ WP c (k ⟨⟩) Q)
        -∗ WP c (sendProg b dv o₁ o₂ o₃ o₄ hd h₁ h₂ h₃ h₄ >>= k) Q) := by
  subst ed e₁ e₂ e₃ e₄
  unfold sendProg mid
  by_cases h : tgt c n = c
  · rw [dif_neg (fun hh => hb.mp hh h), if_pos h]
    simp only [Prog.bind_ret, Prog.pure_eq_ret]
    have hO : Orem c n.val = Orem c (n.val + 1) := by
      unfold Orem; rw [tail_step]; unfold rem; rw [if_pos h, add_zero]
    rw [hO]
    iintro ⟨-, H, HO⟩ Hk
    iapply Hk
    isplitl [H] <;> iassumption
  · rw [dif_pos (hb.mpr h), if_neg h]
    simp only [Prog.lift, Prog.bind_op, Prog.bind_ret, Prog.pure_eq_ret]
    unfold pend done
    rw [if_neg h]
    iintro ⟨#HR, ⟨Hg, ⟨%f, Ho⟩, Ht₂, Ht₁⟩, HO⟩ Hk
    iapply (wp_send_block m K c n h (sendAt_eq _) (recvAt_eq _) k Q f W) $$ [Hg Ho Ht₁ Ht₂ HO]
    · isplitr; · iapply (records_inv m K (c, .inr (.inl (tgt c n)))); iexact HR
      isplitr; · iapply (records_inv m K (tgt c n, .inr (.inr c))); iexact HR
      isplitl [Hg]; · iexact Hg
      isplitl [Ho]; · iexact Ho
      isplitl [HO]; · iexact HO
      isplitl [Ht₁]; · iexact Ht₁
      isplitr; · iapply (records_reached m K (c, .inr (.inl (tgt c n)))); iexact HR
      isplitl [Ht₂]; · iexact Ht₂
      iapply (records_reached m K (tgt c n, .inr (.inr c))); iexact HR
    iexact Hk

end Steps

end Cert.A2A
-- ==== Proof.Trip.lean ====
/-
One trip of the kernel's loop over column groups: wait for the group's weights, start the next group's copy, compute
the group's slab, then its four steps.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The slots of the weight scratch -/

/-- Slot `σ`'s share of the weights. -/
def qw (σ : Fin 2) : PosShare TreeShare := if σ.val = 0 then fullShare.left else fullShare.right
def wPts (c : Dev nD) (σ : Fin 2) : sProp 𝕄 := ((c : Thread nD τ).loc main_arg1) ↦{qw σ} wArr m c

/-- The weights are split between the two slots, -/
theorem wPts_split (c : Dev nD) : (((c : Thread nD τ).loc main_arg1) ↦{fullShare} wArr m c : sProp 𝕄) ⊢ iprop(wPts m c 0 ∗ wPts m c 1) :=
  (pointsTo_share (PosShare.mem_left_op_right fullShare)).1
/-- and joined again. -/
theorem wPts_join (c : Dev nD) : iprop(wPts m c 0 ∗ wPts m c 1) ⊢ (((c : Thread nD τ).loc main_arg1) ↦{fullShare} wArr m c : sProp 𝕄) :=
  (pointsTo_share (PosShare.mem_left_op_right fullShare)).2

/-- The slot trip `k` reads. -/
def slot (k : ℕ) : Fin 2 := ⟨k % 2, Nat.mod_lt _ (by decide)⟩
/-- Two trips later it is the same slot. -/
theorem slot_two (k : ℕ) : slot (k + 2) = slot k := Fin.ext (Nat.add_mod_right k 2)

/-- A slot copy's credit. -/
abbrev NB : ℕ := (bSlot 0).view.dmaCredit
/-- It is positive, -/
theorem NB_pos : 0 < NB := View.dmaCredit_pos _ (by decide +kernel)
/-- and the same for both slots. -/
theorem bcredit_eq (σ : Fin 2) : (bSlot σ).view.dmaCredit = NB := rfl

/-- A slot at rest. -/
def free (c : Dev nD) (σ : Fin 2) : sProp 𝕄 := iprop((∃ f, bPts c σ f) ∗ semVal (copyCell c σ) 0 ∗ wPts m c σ)
/-- A slot holding column group `g`. -/
def full (c : Dev nD) (σ : Fin 2) (g : Fin 8) : sProp 𝕄 := iprop(bPts c σ (wAt m c g) ∗ semVal (copyCell c σ) 0 ∗ wPts m c σ)
/-- A slot being filled with column group `g`. -/
def flying (c : Dev nD) (σ : Fin 2) (g : Fin 8) : sProp 𝕄 :=
  iprop((∃ fd, Flight countersEmb (c : Thread nD τ) (.dma (copyQ σ)) () NB
      iprop(((bSlot σ).view.loc (c : Thread nD τ) ↦[(bSlot σ).view.set]{fullShare}
              ((bSlot σ).view.write (Elt F) fd ((wCols g).view.read (Elt F) (wArr m c)) Finset.univ))
        ∗ ((wCols g).view.loc (c : Thread nD τ) ↦[(wCols g).view.set]{qw σ} wArr m c)))
    ∗ (((c : Thread nD τ).loc main_arg1) ↦[Finset.univ \ (wCols g).view.set]{qw σ} wArr m c))

/-- A slot that holds a group is at rest. -/
theorem full_free (c : Dev nD) (σ : Fin 2) (g : Fin 8) : full m c σ g ⊢ free m c σ := by
  unfold full free
  iintro ⟨H, Hr⟩
  isplitl [H]; · iexists _; iexact H
  iexact Hr

/-- The copy of a column group into a slot at rest. -/
theorem wp_issue (c : Dev nD) (σ : Fin 2) (g : Fin 8) {q : DmaSem sig} (eq : q = copyQ σ)
    {hsrc : (wCols g).view.WordExact} {hdst : (bSlot σ).view.WordExact} {hsem : (DmaTarget.here (nD := nD) (p := (Proc.tc : Proc τ)) (bSlot σ)).Typed .hbm (.dma q)}
    {α : Type} (k : PUnit → KProg F α) (Q : α → sProp 𝕄) :
    free m c σ ⊢ iprop((flying m c σ g -∗ WP c (k ⟨⟩) Q) -∗ WP c (.op (.enqueueDma (wCols g) (.here (bSlot σ)) (.dma q) hsrc hdst hsem) k) Q) := by
  subst eq
  unfold free
  iintro ⟨⟨%f, Hb⟩, Hv, Hw⟩ Hk
  unfold wPts bPts
  ihave Hw' := (pointsTo_split_subset (Finset.subset_univ (wCols g).view.set)).1 $$ Hw
  icases Hw' with ⟨Hw, Hw'⟩
  iapply (Transfers.wp_dmaLocal countersEmb 𝒱₀ (c : Thread nD τ) none (dst := bSlot σ) (sm := .dma (copyQ σ)) () NB (bcredit_eq σ) NB_pos (Finset.Subset.refl _)) $$ [Hb Hv Hw]
  · isplitl [Hw]; · iexact Hw
    isplitl [Hb]; · iexact Hb
    iexact Hv
  iintro Hf
  iapply Hk
  unfold flying
  isplitl [Hf]
  · iexists f; iexact Hf
  iexact Hw'

/-- The wait for it. -/
theorem wp_arrive (c : Dev nD) (σ : Fin 2) (g g' : Fin 8) {q : DmaSem sig} (eq : q = copyQ σ)
    {hsrc : (wCols g').view.WordExact} {hdst : (bSlot σ).view.WordExact}
    {α : Type} (k : PUnit → KProg F α) (Q : α → sProp 𝕄) (n : ℕ) (W : Waits sig Unit) :
    iprop(levAts L lv ∗ flying m c σ g ∗ owes (c : Thread nD τ) (Orem c n) W)
      ⊢ iprop(((full m c σ g ∗ ∃ W, owes (c : Thread nD τ) (Orem c n) W) -∗ WP c (k ⟨⟩) Q)
        -∗ WP c (.op (.waitDma2 q (wCols g') (bSlot σ) hsrc hdst) k) Q) := by
  subst eq
  unfold flying
  iintro ⟨#Hl, ⟨⟨%fd, Hf⟩, Hw'⟩, HO⟩ Hk
  iapply (Transfers.wp_waitLocalO countersEmb 𝒱₀ (c : Thread nD τ) none () (bcredit_eq σ)) $$ [Hf HO]
  · isplitl [Hf]; · iexact Hf
    isplitl [HO]; · iexact HO
    iapply (mayWait_rem c (.dma (copyQ σ)) (by unfold lv; rw [dec_copy]; decide) n); iexact Hl
  iintro ⟨⟨Hb, Hw⟩, Hv, HO⟩
  iapply Hk
  isplitr [HO]
  · unfold full bPts wPts
    isplitl [Hb]; · iapply (Entails.of_eq (pointsTo_congr (slot_copy m c g σ fd))); iexact Hb
    isplitl [Hv]; · iexact Hv
    iapply (pointsTo_split_subset (Finset.subset_univ (wCols g).view.set)).2
    isplitl [Hw] <;> iassumption
  · iexists _; iexact HO

/-! ## The pieces of a trip -/

/-- The wait for the trip's weights. -/
def arriveProg (o₁ : Fin 1 → ℕ) (o₂ : Fin 3 → ℕ) (o₃ : Fin 2 → ℕ) (h₁ : ∀ a, o₁ a + S1.size a ≤ S2.size a)
    (h₂ : ∀ a, o₂ a + S1x8192x512.size a ≤ S2x8192x512.size a) (h₃ : ∀ a, o₃ a + S8192x512.size a ≤ S8192x4096.size a) : KProg F PUnit :=
  Prog.lift (.waitDma2 (copyAt o₁ h₁) (wM.slice (Rect.unit (s := S8192x4096) o₃ S8192x512.size h₃) (fun _ => rfl))
    ((bM.slice (Rect.unit (s := S2x8192x512) o₂ S1x8192x512.size h₂) (fun _ => rfl)).squeeze S8192x512 squeezes_S1x8192x512_S8192x512)
    (View.wordExact_bits rfl) ((View.wordExact_bits rfl).reshape _ _))

/-- The wait for a slot's copy: the slot then holds its column group. -/
theorem wp_arriveProg (c : Dev nD) (σ : Fin 2) (g : Fin 8) {o₁ : Fin 1 → ℕ} {o₂ : Fin 3 → ℕ} {o₃ : Fin 2 → ℕ} {h₁ h₂ h₃}
    (e₁ : o₁ = ![σ.val]) (e₂ : o₂ = ![σ.val, 0, 0]) (e₃ : o₃ = ![0, 512 * g.val])
    {α : Type} (k : PUnit → KProg F α) (Q : α → sProp 𝕄) (n : ℕ) (W : Waits sig Unit) :
    iprop(levAts L lv ∗ flying m c σ g ∗ owes (c : Thread nD τ) (Orem c n) W)
      ⊢ iprop(((full m c σ g ∗ ∃ W, owes (c : Thread nD τ) (Orem c n) W) -∗ WP c (k ⟨⟩) Q)
        -∗ WP c (arriveProg (F := F) o₁ o₂ o₃ h₁ h₂ h₃ >>= k) Q) := by
  subst e₁ e₂ e₃
  exact wp_arrive m c σ g g (copyAt_eq σ) k Q n W

/-- The start of the next group's copy, when `b`. -/
def issueProg (b : BitVec 1) (o₁ : Fin 1 → ℕ) (o₂ : Fin 3 → ℕ) (o₃ : Fin 2 → ℕ) (h₁ : b = 1#1 → ∀ a, o₁ a + S1.size a ≤ S2.size a)
    (h₂ : b = 1#1 → ∀ a, o₂ a + S1x8192x512.size a ≤ S2x8192x512.size a) (h₃ : b = 1#1 → ∀ a, o₃ a + S8192x512.size a ≤ S8192x4096.size a) :
    KProg F PUnit :=
  if h : b = 1#1 then do
    Prog.lift (.enqueueDma (wM.slice (Rect.unit (s := S8192x4096) o₃ S8192x512.size (h₃ h)) (fun _ => rfl))
      (.here ((bM.slice (Rect.unit (s := S2x8192x512) o₂ S1x8192x512.size (h₂ h)) (fun _ => rfl)).squeeze S8192x512 squeezes_S1x8192x512_S8192x512))
      (.dma (copyAt o₁ (h₁ h))) (View.wordExact_bits rfl) ((View.wordExact_bits rfl).reshape _ _) ⟨Or.inl rfl, trivial⟩)
    pure ⟨⟩
  else do
    pure ⟨⟩

/-- The issue of a copy into a slot at rest, when `b`: the slot is then being filled. -/
theorem wp_issueProg (c : Dev nD) (σ : Fin 2) (g : Fin 8) {p : Prop} [Decidable p] {b : BitVec 1} {o₁ : Fin 1 → ℕ} {o₂ : Fin 3 → ℕ} {o₃ : Fin 2 → ℕ} {h₁ h₂ h₃}
    (hb : b = 1#1 ↔ p) (e₁ : b = 1#1 → o₁ = ![σ.val]) (e₂ : b = 1#1 → o₂ = ![σ.val, 0, 0]) (e₃ : b = 1#1 → o₃ = ![0, 512 * g.val])
    {α : Type} (k : PUnit → KProg F α) (Q : α → sProp 𝕄) :
    free m c σ ⊢ iprop(((if p then flying m c σ g else free m c σ) -∗ WP c (k ⟨⟩) Q) -∗ WP c (issueProg (F := F) b o₁ o₂ o₃ h₁ h₂ h₃ >>= k) Q) := by
  unfold issueProg
  by_cases h : b = 1#1
  · obtain rfl := e₁ h; obtain rfl := e₂ h; obtain rfl := e₃ h
    rw [dif_pos h, if_pos (hb.mp h)]
    exact wp_issue m c σ g (copyAt_eq σ) k Q
  · rw [dif_neg h, if_neg (fun hp => h (hb.mpr hp))]
    iintro H Hk
    iapply Hk
    iexact H

/-- The slab's computation: the local rows times the group's weights, through silu, into the staging scratch. -/
def compProg (o₁ o₂ : Fin 3 → ℕ) (h₁ : ∀ a, o₁ a + S1x8192x512.size a ≤ S2x8192x512.size a) (h₂ : ∀ a, o₂ a + S1x256x512.size a ≤ S8x256x512.size a) :
    KProg F PUnit := do
  let v140 : Vec F S256x8192 .f32 ← Prog.lift (.load xM (Rect.unit (s := S256x8192) ![0, 0] S256x8192.size inb_S256x8192_S256x8192_0_0).toLoadRect (View.loadsAt_vmem h_S256x8192))
  let v143 : Vec F S1x8192x512 .f32 ← Prog.lift (.load bM (Rect.unit (s := S2x8192x512) o₁ S1x8192x512.size h₁).toLoadRect (View.loadsAt_vmem h_S1x8192x512))
  let v149 : Vec F S1x256x512 .f32 ← Prog.lift (.load gM (Rect.unit (s := S8x256x512) o₂ S1x256x512.size h₂).toLoadRect (View.loadsAt_vmem h_S1x256x512))
  Prog.lift (.store gM (Rect.unit (s := S8x256x512) o₂ S1x256x512.size h₂) (k0_pay1 v140 v143) Finset.univ (View.stores_vmem_bits_univ h_S1x256x512 rfl) (.inl rfl))

/-- Device `c`'s rows of `x`, staged. -/
def xPts (c : Dev nD) : sProp 𝕄 := ((c : Thread nD τ).loc cc0_stg0_0) ↦{fullShare} xstg m c

/-- The zero offset. -/
theorem hz : (![0, 0] : Fin 2 → Nat) = fun _ => 0 := funext fun a => by fin_cases a <;> rfl
/-- Reading the staged rows whole gives them. -/
theorem read_x (f : (cc0_stg0_0 : Ref sig .tc).ty.Contents (Elt F)) :
    xM.view.readAt (Elt F) (Rect.unit (s := S256x8192) ![0, 0] S256x8192.size inb_S256x8192_S256x8192_0_0).toLoadRect f = f :=
  Memref.readAt_unit_zero (Elt F) cc0_stg0_0 hz _ f

/-- The product and its silu: the step's slab of the staging scratch is computed. -/
theorem wp_comp (c : Dev nD) (σ : Fin 2) (s : Fin 8) {o₁ o₂ : Fin 3 → ℕ} {h₁ h₂}
    (e₁ : o₁ = ![σ.val, 0, 0]) (e₂ : o₂ = ![s.val, 0, 0]) (f : (cc0_scratch1 : Ref sig .tc).ty.Contents (Elt F))
    {α : Type} (k : PUnit → KProg F α) (Q : α → sProp 𝕄) :
    iprop(xPts m c ∗ full m c σ (grp c s.val) ∗ sPts c s f)
      ⊢ iprop(((xPts m c ∗ full m c σ (grp c s.val) ∗ sPts c s (stgAt m c)) -∗ WP c (k ⟨⟩) Q) -∗ WP c (compProg (F := F) o₁ o₂ h₁ h₂ >>= k) Q) := by
  subst e₁ e₂
  unfold compProg xPts full bPts sPts
  simp only [Prog.lift, Prog.bind_op, Prog.bind_ret, Prog.pure_eq_ret]
  iintro ⟨Hx, ⟨Hb, Hr⟩, Hs⟩ Hk
  iapply (wp_load 𝒱₀ (c : Thread nD τ) none Set.univ (m := xM) (Finset.subset_univ _)) $$ Hx
  iintro Hx
  rw [read_x]
  iapply (wp_load 𝒱₀ (c : Thread nD τ) none Set.univ (m := bM) (S := (bSlot σ).view.set)
    (show bM.view.setOn (bRect σ).set ⊆ bSet σ by rw [bSet_eq]; exact Finset.map_refl.subset)) $$ Hb
  iintro Hb
  rw [show bM.view.readAt (Elt F) (Rect.unit (s := S2x8192x512) ![σ.val, 0, 0] S1x8192x512.size h₁).toLoadRect (wAt m c (grp c s.val))
    = wslab m c (grp c s.val) from slot_read m c (grp c s.val) σ]
  iapply (wp_load 𝒱₀ (c : Thread nD τ) none Set.univ (m := gM) (S := sSet s)
    (show gM.view.setOn (sRect s).set ⊆ sSet s from Finset.map_refl.subset)) $$ Hs
  iintro Hs
  iapply (wp_store 𝒱₀ (c : Thread nD τ) none Set.univ (m := gM) (r := sRect s) (Mk := Finset.univ) (S := sSet s)
    (show ((View.whole cc0_scratch1).slice (sRect s)).set ⊆ sSet s by rw [View.set_slice_whole])) $$ Hs
  iintro Hs
  ihave Hs' := (Entails.of_eq (pointsTo_congr (slab_store m c s f))) $$ Hs
  iapply Hk
  isplitl [Hx]; · iexact Hx
  isplitl [Hb Hr]
  · isplitl [Hb] <;> iassumption
  iexact Hs'

end Cert.A2A
-- ==== Proof.Loop.lean ====
/-
The loop over the column groups: the printed trip is its pieces in order, and takes the invariant from `k` to `k + 1`.
-/
module

public import proofs.«01_k».proof.Proof.Trip

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- Trip `t` of device `d`'s loop, as its pieces. -/
def tripProg (d : Dev nD) (t : Fin k0_t2_loop.trips) : KProg F PUnit := do
  arriveProg (k0_off2 t) (k0_off3 t) (k0_off4 d t) (k0_off2_inb t) (k0_off3_inb t) (k0_off4_inb d t)
  issueProg (k0_cond1 t) (k0_off5 t) (k0_off6 t) (k0_off7 d t) (k0_off5_inb t) (k0_off6_inb t) (k0_off7_inb d t)
  compProg (k0_off8 t) (k0_off9 t) (k0_off8_inb t) (k0_off9_inb t)
  ownProg (k0_cond2 d t) (k0_off10 t) (k0_off11 d) (k0_off10_inb d t) (k0_off11_inb d t)
  sendProg (k0_cond3 d t) (k0_dev2 d t) (k0_off12 d t) (k0_off13 d) (k0_off14 d) (k0_off15 t) (k0_dev2_lt d t)
    (k0_off12_inb d t) (k0_off13_inb d t) (k0_off14_inb d t) (k0_off15_inb d t)
  ownProg (k0_cond4 d t) (k0_off16 t) (k0_off17 d) (k0_off16_inb d t) (k0_off17_inb d t)
  sendProg (k0_cond5 d t) (k0_dev3 d t) (k0_off18 d t) (k0_off19 d) (k0_off20 d) (k0_off21 t) (k0_dev3_lt d t)
    (k0_off18_inb d t) (k0_off19_inb d t) (k0_off20_inb d t) (k0_off21_inb d t)
  ownProg (k0_cond6 d t) (k0_off22 t) (k0_off23 d) (k0_off22_inb d t) (k0_off23_inb d t)
  sendProg (k0_cond7 d t) (k0_dev4 d t) (k0_off24 d t) (k0_off25 d) (k0_off26 d) (k0_off27 t) (k0_dev4_lt d t)
    (k0_off24_inb d t) (k0_off25_inb d t) (k0_off26_inb d t) (k0_off27_inb d t)
  ownProg (k0_cond8 d t) (k0_off28 t) (k0_off29 d) (k0_off28_inb d t) (k0_off29_inb d t)
  sendProg (k0_cond9 d t) (k0_dev5 d t) (k0_off30 d t) (k0_off31 d) (k0_off32 d) (k0_off33 t) (k0_dev5_lt d t)
    (k0_off30_inb d t) (k0_off31_inb d t) (k0_off32_inb d t) (k0_off33_inb d t)
  pure ⟨⟩

/-! A piece under its condition, with what follows it in each branch, as the printed program has it. -/

/-- The issue of a weight copy followed by `k`, as the kernel prints it. -/
theorem issueProg_bind {b o₁ o₂ o₃ h₁ h₂ h₃} {α : Type} (k : PUnit → KProg F α) :
    (issueProg (F := F) b o₁ o₂ o₃ h₁ h₂ h₃ >>= k) = if h : b = 1#1 then do
      Prog.lift (.enqueueDma (wM.slice (Rect.unit (s := S8192x4096) o₃ S8192x512.size (h₃ h)) (fun _ => rfl))
        (.here ((bM.slice (Rect.unit (s := S2x8192x512) o₂ S1x8192x512.size (h₂ h)) (fun _ => rfl)).squeeze S8192x512 squeezes_S1x8192x512_S8192x512))
        (.dma (copyAt o₁ (h₁ h))) (View.wordExact_bits rfl) ((View.wordExact_bits rfl).reshape _ _) ⟨Or.inl rfl, trivial⟩)
      k ⟨⟩
    else k ⟨⟩ := by
  unfold issueProg; split <;> rfl

/-- The local store followed by `k`, as the kernel prints it. -/
theorem ownProg_bind {b o₁ o₂ h₁ h₂} {α : Type} (k : PUnit → KProg F α) :
    (ownProg (F := F) b o₁ o₂ h₁ h₂ >>= k) = if h : b = 1#1 then do
      let v187 : Vec F S1x256x128 .f32 ← Prog.lift (.load gM (Rect.unit (s := S8x256x512) o₁ S1x256x128.size (h₁ h)).toLoadRect (View.loadsAt_vmem h_S1x256x128))
      let v191 : Vec F S256x128 .f32 ← Prog.lift (.load oM (Rect.unit (s := S8192x128) o₂ S256x128.size (h₂ h)).toLoadRect (View.loadsAt_vmem h_S256x128))
      Prog.lift (.store oM (Rect.unit (s := S8192x128) o₂ S256x128.size (h₂ h)) (k0_pay2 v187) Finset.univ (View.stores_vmem_bits_univ h_S256x128 rfl) (.inl rfl))
      k ⟨⟩
    else k ⟨⟩ := by
  unfold ownProg; split <;> rfl

/-- The remote copy followed by `k`, as the kernel prints it. -/
theorem sendProg_bind {b dv o₁ o₂ o₃ o₄ hd h₁ h₂ h₃ h₄} {α : Type} (k : PUnit → KProg F α) :
    (sendProg (F := F) b dv o₁ o₂ o₃ o₄ hd h₁ h₂ h₃ h₄ >>= k) = if h : b = 1#1 then do
      Prog.lift (.enqueueDma ((gM.slice (Rect.unit (s := S8x256x512) o₄ S1x256x128.size (h₄ h)) (fun _ => rfl)).squeeze S256x128 squeezes_S1x256x128_S256x128)
        (.remote (Dev.tc (⟨dv, hd h⟩ : Dev nD)) (oM.slice (Rect.unit (s := S8192x128) o₃ S256x128.size (h₃ h)) (fun _ => rfl)) (.dma (sendAt o₁ (h₁ h))))
        (.dma (recvAt o₂ (h₂ h))) ((View.wordExact_bits rfl).reshape _ _) (View.wordExact_bits rfl) ⟨⟨rfl, Or.inl rfl⟩, trivial⟩)
      k ⟨⟩
    else k ⟨⟩ := by
  unfold sendProg; split <;> rfl

/-- The printed first half of a trip. -/
theorem part1_eq (d : Dev nD) (v2 v19 c0 c1 : BitVec 32) (t : Fin k0_t2_loop.trips) :
    ∃ w, k0_part1 (F := F) xM (Memref.isWhole_whole _) wM (Memref.isWhole_whole _) oM (Memref.isWhole_whole _) bM (Memref.isWhole_whole _) gM (Memref.isWhole_whole _) cc0_scratch2 cc0_scratch3 cc0_scratch4 d v2 v19 c0 c1 t = (do
      arriveProg (k0_off2 t) (k0_off3 t) (k0_off4 d t) (k0_off2_inb t) (k0_off3_inb t) (k0_off4_inb d t)
      issueProg (k0_cond1 t) (k0_off5 t) (k0_off6 t) (k0_off7 d t) (k0_off5_inb t) (k0_off6_inb t) (k0_off7_inb d t)
      compProg (k0_off8 t) (k0_off9 t) (k0_off8_inb t) (k0_off9_inb t)
      ownProg (k0_cond2 d t) (k0_off10 t) (k0_off11 d) (k0_off10_inb d t) (k0_off11_inb d t)
      pure w) := by
  refine ⟨?_, ?_⟩
  rotate_left
  · rw [k0_part1_eq_skeleton]
    simp only [issueProg_bind, ownProg_bind]
    unfold k0_part1_skel compProg arriveProg
    simp -zeta only [Prog.bind_assoc]
    rfl

/-- The printed trip is its pieces. -/
theorem trip_eq (d : Dev nD) (v2 v19 c0 : BitVec 32) (t : Fin k0_t2_loop.trips) (u : Unit) :
    k0_t2_body (F := F) xM (Memref.isWhole_whole _) wM (Memref.isWhole_whole _) oM (Memref.isWhole_whole _) bM (Memref.isWhole_whole _) gM (Memref.isWhole_whole _) cc0_scratch2 cc0_scratch3 cc0_scratch4 d v2 v19 c0 t u = tripProg d t := by
  obtain ⟨w, hw⟩ := part1_eq (F := F) d v2 v19 c0 1#32 t
  unfold k0_t2_body tripProg
  rw [hw]
  simp -zeta only [Prog.bind_assoc, pure_bind]
  refine congrArg (Bind.bind _) (funext fun _ => congrArg (Bind.bind _) (funext fun _ => congrArg (Bind.bind _) (funext fun _ =>
    congrArg (Bind.bind _) (funext fun _ => ?_))))
  simp only [ownProg_bind, sendProg_bind]
  rfl

/-! ## One step -/

/-- A step: the store of the device's own slice and the copy of any other, of which one runs. -/
theorem wp_step (c n : Fin 32) (p : ℕ) (hp : n.val = p) {b b' : BitVec 1} {dv : ℕ} {a₁ : Fin 3 → ℕ} {a₂ : Fin 2 → ℕ} {o₁ o₂ : Fin 1 → ℕ} {o₃ : Fin 2 → ℕ} {o₄ : Fin 3 → ℕ}
    {i₁ i₂ hd h₁ h₂ h₃ h₄} (hb : b = 1#1 ↔ tgt c n = c) (hb' : b' = 1#1 ↔ tgt c n ≠ c)
    (ea₁ : a₁ = ![n.val / 4, 0, 128 * (n.val % 4)]) (ea₂ : a₂ = ![256 * c.val, 0]) (ed : dv = (tgt c n).val) (e₁ : o₁ = ![(tgt c n).val]) (e₂ : o₂ = ![c.val])
    (e₃ : o₃ = ![256 * c.val, 0]) (e₄ : o₄ = ![n.val / 4, 0, 128 * (n.val % 4)]) {α : Type} {k : PUnit → KProg F α} {Q : α → sProp 𝕄} {W : Waits sig Unit} :
    iprop(records m K ∗ mix (pend c) (done m c) p ∗ gPts c n (stgAt m c) ∗ owes (c : Thread nD τ) (Orem c p) W)
      ⊢ iprop(((mix (pend c) (done m c) (p + 1) ∗ owes (c : Thread nD τ) (Orem c (p + 1)) W) -∗ WP c (k ⟨⟩) Q)
        -∗ WP c (ownProg b a₁ a₂ i₁ i₂ >>= fun _ => sendProg b' dv o₁ o₂ o₃ o₄ hd h₁ h₂ h₃ h₄ >>= k) Q) := by
  subst hp
  iintro ⟨#HR, HP, Hg, HO⟩ Hk
  ihave HP' := (mix_step (pend c) (done m c) n) $$ HP
  icases HP' with ⟨Hp, HB⟩
  iapply (wp_own m c n hb ea₁ ea₂) $$ [Hg Hp]
  · isplitl [Hg] <;> iassumption
  iintro Hm
  iapply (wp_send m K c n hb' ed e₁ e₂ e₃ e₄) $$ [Hm HO]
  · isplitr; · iexact HR
    isplitl [Hm] <;> iassumption
  iintro ⟨Hd, HO⟩
  iapply Hk
  isplitl [HB Hd]
  · iapply HB; iexact Hd
  iexact HO

/-- A slab is its four slices. -/
theorem slab_split (c : Dev nD) (t : Fin k0_t2_loop.trips) (f : (cc0_scratch1 : Ref sig .tc).ty.Contents (Elt F)) :
    (sPts c ⟨t.val, t2_lt t⟩ f : sProp 𝕄) ⊢ iprop(gPts c (stepOf t 0) f ∗ gPts c (stepOf t 1) f ∗ gPts c (stepOf t 2) f ∗ gPts c (stepOf t 3) f) := by
  rw [sPts_slices, show (Finset.univ : Finset (Fin 4)) = {0, 1, 2, 3} from rfl, bigSep_insert (by decide), bigSep_insert (by decide), bigSep_insert (by decide), bigSep_singleton]
  exact BI.Entails.refl _

/-- The offset of slice `j` of trip `t` in the staging scratch, by the step's number. -/
theorem slice_off (t : Fin k0_t2_loop.trips) (j : Fin 4) : (![t.val, 0, 128 * j.val] : Fin 3 → ℕ) = ![(stepOf t j).val / 4, 0, 128 * ((stepOf t j).val % 4)] := by
  have h₁ : (stepOf t j).val / 4 = t.val := by show (4 * t.val + j.val) / 4 = t.val; have := j.isLt; omega
  have h₂ : (stepOf t j).val % 4 = j.val := by show (4 * t.val + j.val) % 4 = j.val; have := j.isLt; omega
  rw [h₁, h₂]

/-- A finished program satisfies what holds of its value. -/
theorem wp_done (c : Dev nD) {α : Type} {a : α} {Q : α → sProp 𝕄} : Q a ⊢ WP (F := F) c (Prog.ret a) Q := fupd_intro

/-! ## The loop's invariant -/

/-- The weight scratch before trip `k`: the trip's group in flight, the other slot at rest. -/
def slots (c : Dev nD) (k : ℕ) : sProp 𝕄 :=
  iprop((if k < 8 then flying m c (slot k) (grp c k) else free m c (slot k)) ∗ free m c (slot (k + 1)))

def tripInv (f : (cc0_scratch1 : Ref sig .tc).ty.Contents (Elt F)) (c : Dev nD) (k : ℕ) (_ : Unit) : sProp 𝕄 :=
  iprop(records m K ∗ levAts L lv ∗ xPts m c ∗ slots m c k ∗ mix (fun s : Fin 8 => sPts c s f) (fun _ => iprop(emp)) k
    ∗ mix (pend c) (done m c) (4 * k) ∗ ∃ W, owes (c : Thread nD τ) (Orem c (4 * k)) W)

set_option maxHeartbeats 4000000 in
/-- One trip. -/
theorem trip_wp (f : (cc0_scratch1 : Ref sig .tc).ty.Contents (Elt F)) (d : Dev nD) (t : Fin k0_t2_loop.trips) (u : Unit) :
    tripInv m K f d t.val u ⊢ WP d (tripProg d t) (tripInv m K f d (t.val + 1)) := by
  have ht := t2_lt t
  unfold tripInv slots tripProg
  rw [if_pos ht]
  iintro ⟨#HR, #Hl, Hx, ⟨Hfl, Hfr⟩, HS, HP, ⟨%W, HO⟩⟩
  iapply (wp_arriveProg m d (slot t.val) (grp d t.val) (k0_off2_eq t) (k0_off3_eq t) (off4_eq d t)) $$ [Hfl HO]
  · isplitr; · iexact Hl
    isplitl [Hfl] <;> iassumption
  iintro ⟨Hfull, ⟨%W', HO⟩⟩
  have hs : 1 - t.val % 2 = (slot (t.val + 1)).val := by show 1 - t.val % 2 = (t.val + 1) % 2; omega
  iapply (wp_issueProg m d (slot (t.val + 1)) (grp d (t.val + 1)) (cond1_iff t) (fun _ => by rw [k0_off5_eq, hs]) (fun _ => by rw [k0_off6_eq, hs]) (fun _ => off7_eq d t)) $$ Hfr
  iintro Hnext
  ihave HS' := (mix_step (fun s : Fin 8 => (sPts d s f : sProp 𝕄)) (fun _ => iprop(emp)) ⟨t.val, ht⟩) $$ HS
  icases HS' with ⟨Hs, HS⟩
  iapply (wp_comp m d (slot t.val) ⟨t.val, ht⟩ (k0_off8_eq t) (k0_off9_eq t) f) $$ [Hx Hfull Hs]
  · isplitl [Hx]; · iexact Hx
    isplitl [Hfull] <;> iassumption
  iintro ⟨Hx, Hfull, Hs⟩
  ihave Hs' := (slab_split d t (stgAt m d)) $$ Hs
  icases Hs' with ⟨Hg0, Hg1, Hg2, Hg3⟩
  iapply (wp_step m K d (stepOf t 0) (4 * t.val + 0) rfl (cond2_iff d t) (cond3_iff d t) ((k0_off10_eq t).trans (slice_off t 0)) (k0_off11_eq d) (dev2_eq d t) (off12_eq d t) (k0_off13_eq d)
    (k0_off14_eq d) ((k0_off15_eq t).trans (slice_off t 0))) $$ [HP Hg0 HO]
  · isplitr; · iexact HR
    isplitl [HP]; · iexact HP
    isplitl [Hg0]; · iexact Hg0
    iexact HO
  iintro ⟨HP, HO⟩
  iapply (wp_step m K d (stepOf t 1) (4 * t.val + 1) rfl (cond4_iff d t) (cond5_iff d t) ((k0_off16_eq t).trans (slice_off t 1)) (k0_off17_eq d) (dev3_eq d t) (off18_eq d t) (k0_off19_eq d)
    (k0_off20_eq d) ((k0_off21_eq t).trans (slice_off t 1))) $$ [HP Hg1 HO]
  · isplitr; · iexact HR
    isplitl [HP]; · iexact HP
    isplitl [Hg1]; · iexact Hg1
    iexact HO
  iintro ⟨HP, HO⟩
  iapply (wp_step m K d (stepOf t 2) (4 * t.val + 2) rfl (cond6_iff d t) (cond7_iff d t) ((k0_off22_eq t).trans (slice_off t 2)) (k0_off23_eq d) (dev4_eq d t) (off24_eq d t) (k0_off25_eq d)
    (k0_off26_eq d) ((k0_off27_eq t).trans (slice_off t 2))) $$ [HP Hg2 HO]
  · isplitr; · iexact HR
    isplitl [HP]; · iexact HP
    isplitl [Hg2]; · iexact Hg2
    iexact HO
  iintro ⟨HP, HO⟩
  iapply (wp_step m K d (stepOf t 3) (4 * t.val + 3) rfl (cond8_iff d t) (cond9_iff d t) ((k0_off28_eq t).trans (slice_off t 3)) (k0_off29_eq d) (dev5_eq d t) (off30_eq d t) (k0_off31_eq d)
    (k0_off32_eq d) ((k0_off33_eq t).trans (slice_off t 3))) $$ [HP Hg3 HO]
  · isplitr; · iexact HR
    isplitl [HP]; · iexact HP
    isplitl [Hg3]; · iexact Hg3
    iexact HO
  iintro ⟨HP, HO⟩
  iapply (wp_done d)
  isplitr; · iexact HR
  isplitr; · iexact Hl
  isplitl [Hx]; · iexact Hx
  isplitl [Hnext Hfull]
  · isplitl [Hnext]; · iexact Hnext
    rw [slot_two]
    iapply (full_free m d (slot t.val) (grp d t.val)); iexact Hfull
  isplitl [HS]
  · iapply HS; iempintro
  isplitl [HP]; · iexact HP
  iexists W'; iexact HO

end Cert.A2A
-- ==== Proof.Waits.lean ====
/-
The waits after the loop: for every other device, the copy to it and the copy from it.
-/
module

public import proofs.«01_k».proof.Proof.Loop

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The waits for one device's two copies -/

/-- The kernel's own device number, as it computes it. -/
def selfWord (d : Dev nD) : BitVec 32 := Scalar.remsi (Scalar.divsi (Dev.word d) 1#32) 32#32
/-- The test of the waits for device `d`. -/
def waitBit (v2 : BitVec 32) (d : ℕ) : BitVec 1 := Scalar.cmpi .ne (Scalar.extui (Scalar.cmpi .ne v2 (BitVec.ofNat 32 d)) : BitVec 32) 0#32
/-- It holds for every device but the kernel's own. -/
theorem waitBit_iff : ∀ c d : Fin 32, waitBit (selfWord c) d.val = 1#1 ↔ d ≠ c := by decide +kernel

/-- The printed waits, when `b`. -/
def waitProg (b : BitVec 1) (o₁ : Fin 1 → ℕ) (o₂ : Fin 2 → ℕ) (h₁ : ∀ a, o₁ a + S1.size a ≤ S32.size a) (h₂ : ∀ a, o₂ a + S256x128.size a ≤ S8192x128.size a) :
    KProg F PUnit :=
  if h : b = 1#1 then do
    Prog.lift (.waitDma2 (sendAt o₁ h₁) (oM.slice (Rect.unit (s := S8192x128) o₂ S256x128.size h₂) (fun _ => rfl))
      ((gM.slice (Rect.unit (s := S8x256x512) ![0, 0, 0] S1x256x128.size inb_S8x256x512_S1x256x128_0_0_0) (fun _ => rfl)).squeeze S256x128 squeezes_S1x256x128_S256x128)
      (View.wordExact_bits rfl) ((View.wordExact_bits rfl).reshape _ _))
    Prog.lift (.waitDma2 (recvAt o₁ h₁)
      ((gM.slice (Rect.unit (s := S8x256x512) ![0, 0, 0] S1x256x128.size inb_S8x256x512_S1x256x128_0_0_0) (fun _ => rfl)).squeeze S256x128 squeezes_S1x256x128_S256x128)
      (oM.slice (Rect.unit (s := S8192x128) o₂ S256x128.size h₂) (fun _ => rfl)) ((View.wordExact_bits rfl).reshape _ _) (View.wordExact_bits rfl))
    pure ⟨⟩
  else do
    pure ⟨⟩

/-- The waits followed by `k`, as the kernel prints them. -/
theorem waitProg_bind {b o₁ o₂ h₁ h₂} {α : Type} (k : PUnit → KProg F α) :
    (waitProg (F := F) b o₁ o₂ h₁ h₂ >>= k) = if h : b = 1#1 then do
      Prog.lift (.waitDma2 (sendAt o₁ h₁) (oM.slice (Rect.unit (s := S8192x128) o₂ S256x128.size h₂) (fun _ => rfl))
        ((gM.slice (Rect.unit (s := S8x256x512) ![0, 0, 0] S1x256x128.size inb_S8x256x512_S1x256x128_0_0_0) (fun _ => rfl)).squeeze S256x128 squeezes_S1x256x128_S256x128)
        (View.wordExact_bits rfl) ((View.wordExact_bits rfl).reshape _ _))
      Prog.lift (.waitDma2 (recvAt o₁ h₁)
        ((gM.slice (Rect.unit (s := S8x256x512) ![0, 0, 0] S1x256x128.size inb_S8x256x512_S1x256x128_0_0_0) (fun _ => rfl)).squeeze S256x128 squeezes_S1x256x128_S256x128)
        (oM.slice (Rect.unit (s := S8192x128) o₂ S256x128.size h₂) (fun _ => rfl)) ((View.wordExact_bits rfl).reshape _ _) (View.wordExact_bits rfl))
      k ⟨⟩
    else k ⟨⟩ := by
  unfold waitProg; split <;> rfl

/-- The waits for device `d`, before: the steps' yields, the credit of its copy, the two positions. -/
def before (c d : Fin 32) : sProp 𝕄 :=
  iprop(done m c (stp c d) ∗ (if d = c then iprop(emp) else cred (tallyAt (recvCell c d) () N)) ∗ atPos ER (sendCell c d) 0 ∅ 0 ∗ atPos ER (recvCell c d) 0 ∅ 0)
/-- After: its row block computed, the slice sent back, and the two counters at zero. -/
def after (c d : Fin 32) : sProp 𝕄 :=
  iprop(oPts c d (outAt m c) ∗ gPts c (stp c d) (stgAt m c) ∗ semVal (sendCell c d) 0 ∗ semVal (recvCell c d) 0)

/-- A send cell without further duties gives its counter back at zero, -/
theorem close_send (c d : Fin 32) (R : ℕ) (hR : ∀ r, R ≤ r → (a2a m).duties (sendCell c d) r = ∅) :
    iprop(records m K ∗ atPos ER (sendCell c d) R ∅ 0) ⊢ |={Set.univ}=> (semVal (sendCell c d) 0 : sProp 𝕄) := by
  refine (sep_mono_left (records_inv m K (c, .inr (.inl d)))).trans ?_
  exact Rounds.cell_close ER (a2a m) (Set.mem_univ _) (fun h => h) hR
/-- and so a receive cell. -/
theorem close_recv (c d : Fin 32) (R : ℕ) (hR : ∀ r, R ≤ r → (a2a m).duties (recvCell c d) r = ∅) :
    iprop(records m K ∗ atPos ER (recvCell c d) R ∅ 0) ⊢ |={Set.univ}=> (semVal (recvCell c d) 0 : sProp 𝕄) := by
  refine (sep_mono_left (records_inv m K (c, .inr (.inr d)))).trans ?_
  exact Rounds.cell_close ER (a2a m) (Set.mem_univ _) (fun h => h) hR

/-- One device's two waits. -/
theorem wp_waitProg (c d : Fin 32) {b : BitVec 1} {o₁ : Fin 1 → ℕ} {o₂ : Fin 2 → ℕ} {h₁ h₂} (hb : b = 1#1 ↔ d ≠ c) (e₁ : o₁ = ![d.val])
    {α : Type} (k : PUnit → KProg F α) (Q : α → sProp 𝕄) (W : Waits sig Unit) :
    iprop(records m K ∗ before m c d ∗ owes (c : Thread nD τ) 0 W)
      ⊢ iprop(((after m c d ∗ ∃ W, owes (c : Thread nD τ) 0 W) -∗ WP c (k ⟨⟩) Q) -∗ WP c (waitProg b o₁ o₂ h₁ h₂ >>= k) Q) := by
  subst e₁
  rw [waitProg_bind]
  unfold before after done
  rw [tgt_stp]
  by_cases h : d = c
  · rw [dif_neg (fun hh => hb.mp hh h), if_pos h]
    subst h
    iintro ⟨#HR, ⟨⟨Ho, Hg⟩, -, HaS, HaV⟩, HO⟩ Hk
    imod (close_send m K d d 0 (duties_own_send m d)) $$ [HaS] with HzS
    · isplitr; · iexact HR
      iexact HaS
    imod (close_recv m K d d 0 (duties_own_recv m d)) $$ [HaV] with HzV
    · isplitr; · iexact HR
      iexact HaV
    iapply Hk
    isplitr [HO]
    · isplitl [Ho]; · iexact Ho
      isplitl [Hg]; · iexact Hg
      isplitl [HzS] <;> iassumption
    · iexists W; iexact HO
  · rw [dif_pos (hb.mpr h), if_neg h, if_neg h]
    simp only [Prog.lift, Prog.bind_op, Prog.bind_ret, Prog.pure_eq_ret, sendAt_eq, recvAt_eq]
    iintro ⟨#HR, ⟨HcS, HcV, HaS, HaV⟩, HO⟩ Hk
    iapply (Rounds.wp_wait_rest_token 𝒱₀ ER (a2a m) (c : Thread nD τ) none (κ := K (c, .inr (.inl d)))
      (wpE_waitDma2_eq 𝒱₀ (c : Thread nD τ) none Set.univ) (Set.mem_univ _) () (O := 0) (W := W) (R := 0) (m := 0) (T := ∅)
      (by rw [Nat.zero_add, expect_send m c d h])) $$ [HcS HO HaS]
    · isplitr; · iapply (records_inv m K (c, .inr (.inl d))); iexact HR
      isplitl [HcS]; · iexact HcS
      isplitl [HO]; · iexact HO
      isplitr; · rw [MayWait_zero]; iempintro
      iexact HaS
    iintro ⟨HO, HaS, -, Hp⟩
    ihave Hg := (Entails.of_eq (rest_send m c d h)) $$ Hp
    iapply (Rounds.wp_wait_rest_token 𝒱₀ ER (a2a m) (c : Thread nD τ) none (κ := K (c, .inr (.inr d)))
      (wpE_waitDma2_eq 𝒱₀ (c : Thread nD τ) none Set.univ) (Set.mem_univ _) () (O := 0) (R := 0) (m := 0) (T := ∅)
      (by rw [Nat.zero_add, expect_recv m c d h]; rfl)) $$ [HcV HO HaV]
    · isplitr; · iapply (records_inv m K (c, .inr (.inr d))); iexact HR
      isplitl [HcV]; · iexact HcV
      isplitl [HO]; · iexact HO
      isplitr; · rw [MayWait_zero]; iempintro
      iexact HaV
    iintro ⟨HO, HaV, -, Hp⟩
    ihave Ho := (Entails.of_eq (rest_recv m c d h)) $$ Hp
    imod (close_send m K c d (0 + 1) (duties_later m _)) $$ [HaS] with HzS
    · isplitr; · iexact HR
      iexact HaS
    imod (close_recv m K c d (0 + 1) (duties_later m _)) $$ [HaV] with HzV
    · isplitr; · iexact HR
      iexact HaV
    iapply Hk
    isplitr [HO]
    · isplitl [Ho]; · iexact Ho
      isplitl [Hg]; · iexact Hg
      isplitl [HzS] <;> iassumption
    · iexists _; iexact HO

/-! ## A run of them -/

/-- The waits for the `n` devices from `a` on. -/
def waitsN (v2 : BitVec 32) (a : ℕ) : ℕ → KProg F PUnit
  | 0 => pure ⟨⟩
  | n + 1 => waitProg (waitBit v2 a) ![(Fin.ofNat 32 a).val] ![256 * (Fin.ofNat 32 a).val, 0] (inb_q _) (inb_o _) >>= fun _ => waitsN v2 (a + 1) n

/-- The waits for `n` devices from `a` on, one after the other. -/
theorem wp_waitsN (c : Fin 32) (n : ℕ) {α : Type} (k : PUnit → KProg F α) (Q : α → sProp 𝕄) : ∀ (a : ℕ) (ha : a + n ≤ 32) (W : Waits sig Unit),
    iprop(records m K ∗ mix (before m c) (after m c) a ∗ owes (c : Thread nD τ) 0 W)
      ⊢ iprop(((mix (before m c) (after m c) (a + n) ∗ ∃ W, owes (c : Thread nD τ) 0 W) -∗ WP c (k ⟨⟩) Q) -∗ WP c (waitsN (selfWord c) a n >>= k) Q) := by
  induction n with
  | zero =>
    intro a ha W
    iintro ⟨-, HM, HO⟩ Hk
    rw [show (waitsN (F := F) (selfWord c) a 0 >>= k) = k ⟨⟩ from rfl]
    iapply Hk
    isplitl [HM]; · iexact HM
    iexists W; iexact HO
  | succ n ih =>
    intro a ha W
    have hv : (Fin.ofNat 32 a).val = a := Nat.mod_eq_of_lt (by omega)
    rw [show (waitsN (F := F) (selfWord c) a (n + 1) >>= k) = (waitProg (waitBit (selfWord c) a) ![(Fin.ofNat 32 a).val] ![256 * (Fin.ofNat 32 a).val, 0] (inb_q _) (inb_o _)
      >>= fun _ => waitsN (selfWord c) (a + 1) n >>= k) from Prog.bind_assoc _ _ _]
    iintro ⟨#HR, HM, HO⟩ Hk
    have hs : mix (before m c) (after m c) a ⊢ iprop(before m c (Fin.ofNat 32 a) ∗ (after m c (Fin.ofNat 32 a) -∗ mix (before m c) (after m c) (a + 1))) := by
      have := mix_step (before m c) (after m c) (Fin.ofNat 32 a)
      rwa [hv] at this
    ihave HM' := hs $$ HM
    icases HM' with ⟨Hb, HM⟩
    iapply (wp_waitProg m K c (Fin.ofNat 32 a) (by have := waitBit_iff c (Fin.ofNat 32 a); rwa [hv] at this) rfl) $$ [Hb HO]
    · isplitr; · iexact HR
      isplitl [Hb] <;> iassumption
    iintro ⟨Ha, ⟨%W', HO⟩⟩
    iapply (ih (a + 1) (by omega) W') $$ [Ha HM HO]
    · isplitr; · iexact HR
      isplitl [Ha HM]
      · iapply HM; iexact Ha
      iexact HO
    rw [show a + 1 + n = a + (n + 1) by omega]
    iexact Hk

/-- One wait at the head of a run of them, with what follows in each branch. -/
theorem waitsN_step {v2 : BitVec 32} {a n : ℕ} {α : Type} {k : PUnit → KProg F α} {J : KProg F α} (hJ : J = (waitsN v2 (a + 1) n >>= k)) :
    (if h : waitBit v2 a = 1#1 then do
      Prog.lift (.waitDma2 (sendAt ![(Fin.ofNat 32 a).val] (inb_q _)) (oM.slice (Rect.unit (s := S8192x128) ![256 * (Fin.ofNat 32 a).val, 0] S256x128.size (inb_o _)) (fun _ => rfl))
        ((gM.slice (Rect.unit (s := S8x256x512) ![0, 0, 0] S1x256x128.size inb_S8x256x512_S1x256x128_0_0_0) (fun _ => rfl)).squeeze S256x128 squeezes_S1x256x128_S256x128)
        (View.wordExact_bits rfl) ((View.wordExact_bits rfl).reshape _ _))
      Prog.lift (.waitDma2 (recvAt ![(Fin.ofNat 32 a).val] (inb_q _))
        ((gM.slice (Rect.unit (s := S8x256x512) ![0, 0, 0] S1x256x128.size inb_S8x256x512_S1x256x128_0_0_0) (fun _ => rfl)).squeeze S256x128 squeezes_S1x256x128_S256x128)
        (oM.slice (Rect.unit (s := S8192x128) ![256 * (Fin.ofNat 32 a).val, 0] S256x128.size (inb_o _)) (fun _ => rfl)) ((View.wordExact_bits rfl).reshape _ _) (View.wordExact_bits rfl))
      J
    else J : KProg F α) = (waitsN v2 a (n + 1) >>= k) := by
  rw [hJ, show (waitsN (F := F) v2 a (n + 1) >>= k) = (waitProg (waitBit v2 a) ![(Fin.ofNat 32 a).val] ![256 * (Fin.ofNat 32 a).val, 0] (inb_q _) (inb_o _)
    >>= fun _ => waitsN v2 (a + 1) n >>= k) from Prog.bind_assoc _ _ _, waitProg_bind]

/-! ## The printed parts -/

/-- The third printed part is the main loop and the waits for devices 0 to 8, -/
theorem part3_eq (d : Dev nD) (v2 v19 c0 : BitVec 32) :
    k0_part3 (F := F) xM (Memref.isWhole_whole _) wM (Memref.isWhole_whole _) oM (Memref.isWhole_whole _) bM (Memref.isWhole_whole _) gM (Memref.isWhole_whole _) cc0_scratch2 cc0_scratch3 cc0_scratch4 d v2 v19 c0 = (do
      Scf.Loop.for k0_t2_loop k0_t2_ok ⟨⟩ (k0_t2_body (F := F) xM (Memref.isWhole_whole _) wM (Memref.isWhole_whole _) oM (Memref.isWhole_whole _) bM (Memref.isWhole_whole _) gM (Memref.isWhole_whole _) cc0_scratch2 cc0_scratch3 cc0_scratch4 d v2 v19 c0)
      waitsN (F := F) v2 0 9
      pure (Scalar.extui (Scalar.cmpi .ne v2 9#32) : BitVec 32)) := by
  rw [k0_part3_eq_skeleton]
  refine congrArg (Bind.bind _) (funext fun _ => ?_)
  iterate 9 refine waitsN_step ?_
  rfl
/-- the fourth the waits for 9 to 18, -/
theorem part4_eq (v2 : BitVec 32) :
    k0_part4 (F := F) xM (Memref.isWhole_whole _) wM (Memref.isWhole_whole _) oM (Memref.isWhole_whole _) bM (Memref.isWhole_whole _) gM (Memref.isWhole_whole _) cc0_scratch2 cc0_scratch3 cc0_scratch4 v2 (Scalar.extui (Scalar.cmpi .ne v2 9#32)) = (do
      waitsN (F := F) v2 9 10
      pure (Scalar.extui (Scalar.cmpi .ne v2 19#32) : BitVec 32)) := by
  rw [k0_part4_eq_skeleton]
  iterate 10 refine waitsN_step ?_
  rfl
/-- and the fifth those for 19 to 28. -/
theorem part5_eq (v2 : BitVec 32) :
    k0_part5 (F := F) xM (Memref.isWhole_whole _) wM (Memref.isWhole_whole _) oM (Memref.isWhole_whole _) bM (Memref.isWhole_whole _) gM (Memref.isWhole_whole _) cc0_scratch2 cc0_scratch3 cc0_scratch4 v2 (Scalar.extui (Scalar.cmpi .ne v2 19#32)) = (do
      waitsN (F := F) v2 19 10
      pure (Scalar.extui (Scalar.cmpi .ne v2 29#32) : BitVec 32)) := by
  rw [k0_part5_eq_skeleton]
  iterate 10 refine waitsN_step ?_
  rfl
/-- The body: its head, the loop over the column groups, and the waits. -/
theorem body_eq : cc0_body (F := F) xM (Memref.isWhole_whole _) wM (Memref.isWhole_whole _) oM (Memref.isWhole_whole _) bM (Memref.isWhole_whole _) gM (Memref.isWhole_whole _) cc0_scratch2 cc0_scratch3 cc0_scratch4 = (do
    let ⟨d, v2, v19, c0⟩ : Σ' (d : Dev nD) (v2 : BitVec 32) (v19 : BitVec 32), BitVec 32 ← k0_part2 (F := F) xM (Memref.isWhole_whole _) wM (Memref.isWhole_whole _) oM (Memref.isWhole_whole _) bM (Memref.isWhole_whole _) gM (Memref.isWhole_whole _) cc0_scratch2 cc0_scratch3 cc0_scratch4
    Scf.Loop.for k0_t2_loop k0_t2_ok ⟨⟩ (k0_t2_body (F := F) xM (Memref.isWhole_whole _) wM (Memref.isWhole_whole _) oM (Memref.isWhole_whole _) bM (Memref.isWhole_whole _) gM (Memref.isWhole_whole _) cc0_scratch2 cc0_scratch3 cc0_scratch4 d v2 v19 c0)
    waitsN (F := F) v2 0 9
    waitsN (F := F) v2 9 10
    waitsN (F := F) v2 19 10
    waitsN (F := F) v2 29 3
    pure ⟨⟩) := by
  rw [cc0_body_eq_skeleton]
  unfold cc0_body_skel
  refine congrArg (Bind.bind _) (funext fun x => ?_)
  simp -zeta only [part3_eq, part4_eq, part5_eq, Prog.bind_assoc, pure_bind]
  refine congrArg (Bind.bind _) (funext fun _ => congrArg (Bind.bind _) (funext fun _ => congrArg (Bind.bind _) (funext fun _ => congrArg (Bind.bind _) (funext fun _ => ?_))))
  iterate 3 refine waitsN_step ?_
  rfl

end Cert.A2A
-- ==== Proof.Body.lean ====
/-
The body, at a symbolic device: the entry barrier, the loop over the column groups, the waits.
-/
module

public import proofs.«01_k».proof.Proof.Waits

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The entry barrier -/

/-- The head's loop before trip `k`: the row blocks still to hand out, with the signals that do, and what is owed. -/
def barInv (f : (cc0_stg1_0 : Ref sig .tc).ty.Contents (Elt F)) (c : Dev nD) (k : ℕ) (_ : Unit) : sProp 𝕄 :=
  iprop(records m K ∗ mix (fun d : Fin 32 => iprop(oPts c d f ∗ dutyTok ER (barCell d) 0 c)) (fun _ => iprop(emp)) k
    ∗ ∃ W, owes (c : Thread nD τ) (Orem c 0 + Obar k) W)

/-- The signal of device `d`'s barrier cell, with the row block `d` writes. -/
theorem wp_enter (c n d : Dev nD) (hn : n = d) (f : (cc0_stg1_0 : Ref sig .tc).ty.Contents (Elt F)) {α : Type} (k : PUnit → KProg F α) (Q : α → sProp 𝕄) (W : Waits sig Unit) :
    iprop(records m K ∗ (oPts c d f ∗ dutyTok ER (barCell d) 0 c) ∗ owes (c : Thread nD τ) (Orem c 0 + Obar d.val) W)
      ⊢ iprop((owes (c : Thread nD τ) (Orem c 0 + Obar (d.val + 1)) W -∗ WP c (k ⟨⟩) Q) -∗ WP c (.op (.semSignal (n, .tc) barS (1#32).toInt) k) Q) := by
  subst hn
  iintro ⟨#HR, ⟨Ho, Ht⟩, HO⟩ Hk
  iapply (Rounds.wp_signal 𝒱₀ ER (a2a m) (c : Thread nD τ) none (dst := (n : Thread nD τ)) (κ := K (n, .inl ()))
      (d := c) (by rw [duties_bar]; exact Finset.mem_univ _) ((amount_bar m n c).trans (by decide)) () (Orem c 0 + Obar (n.val + 1))
      (O₀ := Orem c 0 + Obar n.val) (by unfold Obar; rw [tail_step, add_assoc]; rfl)) $$ [HO Ht Ho]
  · isplitr; · iapply (records_inv m K (n, .inl ())); iexact HR
    isplitl [HO]; · iexact HO
    isplitl [Ht]; · iexact Ht
    isplitl [Ho]
    · rw [payload_bar]; iexists f; iexact Ho
    iapply (records_reached m K (n, .inl ())); iexact HR
  iexact Hk

/-- One round of the entry loop signals one more device. -/
theorem enter_wp (f : (cc0_stg1_0 : Ref sig .tc).ty.Contents (Elt F)) (c : Dev nD) (t : Fin k0_t1_loop.trips) (u : Unit) :
    barInv m K f c t.val u ⊢ WP c (k0_t1_body (F := F) xM (Memref.isWhole_whole _) wM (Memref.isWhole_whole _) oM (Memref.isWhole_whole _) bM (Memref.isWhole_whole _) gM (Memref.isWhole_whole _) cc0_scratch2 cc0_scratch3 cc0_scratch4 (SemArray.scalar (sig.barrier 0 rfl)) t u) (barInv m K f c (t.val + 1)) := by
  have ht : t.val < 32 := Nat.lt_of_lt_of_eq t.isLt trips1
  unfold barInv k0_t1_body
  simp only [semSignalWord, Prog.lift, Prog.bind_op, Prog.bind_ret, Prog.pure_eq_ret]
  iintro ⟨#HR, HM, ⟨%W, HO⟩⟩
  ihave HM' := (mix_step (fun d : Fin 32 => iprop(oPts c d f ∗ dutyTok ER (barCell d) 0 c)) (fun _ => iprop(emp)) ⟨t.val, ht⟩) $$ HM
  icases HM' with ⟨Hd, HM⟩
  iapply (wp_enter m K c _ ⟨t.val, ht⟩ (Fin.ext (k0_dev1_eq t)) f) $$ [Hd HO]
  · isplitr; · iexact HR
    isplitl [Hd] <;> iassumption
  iintro HO
  iapply (wp_done c)
  isplitr; · iexact HR
  isplitl [HM]
  · iapply HM; iempintro
  iexists W; iexact HO

/-- The wait for every device's signal: the row block of each of them that this device writes. -/
theorem wp_entered (c : Dev nD) {α : Type} (k : PUnit → KProg F α) (Q : α → sProp 𝕄) (W : Waits sig Unit) :
    iprop(records m K ∗ levAts L lv ∗ cred (tallyAt (barCell c) () 32) ∗ atPos ER (barCell c) 0 ∅ 0 ∗ owes (c : Thread nD τ) (Orem c 0) W)
      ⊢ iprop((((bigSep Finset.univ fun p : Fin 32 => iprop(∃ f, oPts p c f)) ∗ semVal (barCell c) 0 ∗ ∃ W, owes (c : Thread nD τ) (Orem c 0) W) -∗ WP c (k ⟨⟩) Q)
        -∗ WP c (.op (.semWait barS (32#32).toInt) k) Q) := by
  iintro ⟨#HR, #Hl, Hc, Ha, HO⟩ Hk
  iapply (Rounds.wp_wait_rest_token 𝒱₀ ER (a2a m) (c : Thread nD τ) none (κ := K (c, .inl ()))
      (wpE_semWait_eq 𝒱₀ (c : Thread nD τ) none Set.univ) (Set.mem_univ _) () (O := Orem c 0) (W := W) (R := 0) (m := 0) (T := ∅)
      (by rw [expect_bar]; decide)) $$ [Hc HO Ha]
  · isplitr; · iapply (records_inv m K (c, .inl ())); iexact HR
    isplitl [Hc]; · iexact Hc
    isplitl [HO]; · iexact HO
    isplitr; · iapply (mayWait_rem c (.reg barS) (by rw [lv_bar]; decide) 0); iexact Hl
    iexact Ha
  iintro ⟨HO, Ha, -, Hp⟩
  ihave Hp' := (Entails.of_eq (rest_bar m c)) $$ Hp
  imod (Rounds.cell_close ER (a2a m) (Set.mem_univ (K (c, .inl ()))) (fun h => h) (R := 0 + 1) (duties_later m (barCell c))) $$ [Ha] with Hz
  · isplitr; · iapply (records_inv m K (c, .inl ())); iexact HR
    iexact Ha
  iapply Hk
  isplitl [Hp']; · iexact Hp'
  isplitl [Hz]; · iexact Hz
  iexists _; iexact HO

/-- The first column group's copy. -/
theorem wp_first (c : Dev nD) (g : Fin 8) {o₃ : Fin 2 → ℕ} {h₃ : ∀ a, o₃ a + S8192x512.size a ≤ S8192x4096.size a} (e₃ : o₃ = ![0, 512 * g.val])
    {hsrc hdst hsem} {α : Type} (k : PUnit → KProg F α) (Q : α → sProp 𝕄) :
    free m c 0 ⊢ iprop((flying m c 0 g -∗ WP c (k ⟨⟩) Q)
      -∗ WP c (.op (.enqueueDma (wM.slice (Rect.unit (s := S8192x4096) o₃ S8192x512.size h₃) (fun _ => rfl))
        (.here ((bM.slice (Rect.unit (s := S2x8192x512) ![0, 0, 0] S1x8192x512.size inb_S2x8192x512_S1x8192x512_0_0_0) (fun _ => rfl)).squeeze S8192x512 squeezes_S1x8192x512_S8192x512))
        (.dma (copyAt ![0] inb_S2_S1_0)) hsrc hdst hsem) k) Q) := by
  subst e₃
  exact wp_issue m c 0 g (copyAt_eq 0) k Q

/-! ## The pieces regrouped -/

/-- A product over two indices is its two factors. -/
theorem bigSep_two (Φ : Fin 2 → sProp 𝕄) : bigSep Finset.univ Φ = iprop(Φ 0 ∗ Φ 1) := bigSep_univ_eq_bigSepL [0, 1] (by decide) (by decide) Φ

/-- The two slots are the weight scratch. -/
theorem bPts_join (c : Dev nD) : iprop((∃ f, bPts c 0 f) ∗ ∃ f, bPts c 1 f) ⊢ (∃ f, ((c : Thread nD τ).loc cc0_scratch0) ↦{fullShare} f : sProp 𝕄) := by
  classical
  iintro ⟨⟨%f, H0⟩, ⟨%g, H1⟩⟩
  iexists (fun i => if i ∈ bSet 0 then f i else g i)
  rw [bPts_all, bigSep_two]
  have h0 : (bPts c 0 f : sProp 𝕄) = bPts c 0 (fun i => if i ∈ bSet 0 then f i else g i) := pointsTo_congr fun i hi => (if_pos hi).symm
  have h1 : (bPts c 1 g : sProp 𝕄) = bPts c 1 (fun i => if i ∈ bSet 0 then f i else g i) :=
    pointsTo_congr fun i hi => (if_neg fun hn => Finset.disjoint_left.mp (bSet_disj 0 1 (by decide)) hn hi).symm
  rw [← h0, ← h1]
  isplitl [H0]; · iexact H0
  iexact H1

/-- The row blocks and the copies' duties, by step. -/
theorem pend_all (c : Dev nD) :
    iprop((bigSep Finset.univ fun p : Fin 32 => iprop(∃ f, oPts p c f)) ∗ bigSep Finset.univ fun t : Fin 32 => iprop(dutyTok ER (recvCell t c) 0 0 ∗ dutyTok ER (sendCell c t) 0 0))
      ⊢ (bigSep Finset.univ (pend c) : sProp 𝕄) := by
  rw [← bigSep_sep', bigSep_univ_equiv (tgtE c)]
  exact BI.Entails.refl _

/-- What the steps leave, numbered by target instead of by step. -/
theorem done_all (c : Dev nD) : (bigSep Finset.univ (done m c) : sProp 𝕄) = bigSep Finset.univ fun d : Fin 32 => done m c (stp c d) :=
  bigSep_univ_equiv (tgtE c).symm (done m c)
/-- The staging scratch is its 32 slices, numbered by target. -/
theorem slices_all (c : Dev nD) (f : (cc0_scratch1 : Ref sig .tc).ty.Contents (Elt F)) :
    (bigSep Finset.univ fun d : Fin 32 => (gPts c (stp c d) f : sProp 𝕄)) = (((c : Thread nD τ).loc cc0_scratch1) ↦{fullShare} f) :=
  (bigSep_univ_equiv (tgtE c).symm (fun n => (gPts c n f : sProp 𝕄))).symm.trans (gPts_all c f).symm

/-! ## The whole body -/

/-- What the launch gives device `c` of the schedule. -/
def ghost (c : Dev nD) : sProp 𝕄 :=
  iprop(records m K ∗ atPos ER (barCell c) 0 ∅ 0
    ∗ (bigSep Finset.univ fun d : Fin 32 => iprop(atPos ER (sendCell c d) 0 ∅ 0 ∗ atPos ER (recvCell c d) 0 ∅ 0))
    ∗ (bigSep Finset.univ fun d : Fin 32 => dutyTok ER (barCell d) 0 c)
    ∗ (bigSep Finset.univ fun t : Fin 32 => iprop(dutyTok ER (recvCell t c) 0 0 ∗ dutyTok ER (sendCell c t) 0 0))
    ∗ semVal (copyCell c 0) 0 ∗ semVal (copyCell c 1) 0)

/-- The credit of the copies to device `c`. -/
def landing (c : Dev nD) : sProp 𝕄 := bigSep Finset.univ fun d : Fin 32 => if d = c then iprop(emp) else cred (tallyAt (recvCell c d) () N)

/-- The scratch, before and after. -/
def scratch (c : Dev nD) : sProp 𝕄 :=
  iprop((∃ f, ((c : Thread nD τ).loc cc0_scratch0) ↦{fullShare} f) ∗ ∃ f, ((c : Thread nD τ).loc cc0_scratch1) ↦{fullShare} f)

/-- Device `c`'s counters, at zero. -/
def zeros (c : Dev nD) : sProp 𝕄 :=
  iprop(semVal (barCell c) 0 ∗ (semVal (copyCell c 0) 0 ∗ semVal (copyCell c 1) 0)
    ∗ bigSep Finset.univ fun d : Fin 32 => iprop(semVal (sendCell c d) 0 ∗ semVal (recvCell c d) 0))

/-- What the body starts from. -/
def bodyPre (c : Dev nD) : sProp 𝕄 :=
  iprop(ghost m K c ∗ cred (tallyAt (barCell c) () 32) ∗ landing c ∗ levAts L lv ∗ (((c : Thread nD τ).loc main_arg1) ↦{fullShare} wArr m c) ∗ scratch c
    ∗ (∃ W, owes (c : Thread nD τ) (O₀ c) W) ∗ xPts m c ∗ ∃ f, ((c : Thread nD τ).loc cc0_stg1_0) ↦{fullShare} f)
/-- What it ends with. -/
def bodyPost (c : Dev nD) : sProp 𝕄 :=
  iprop(zeros c ∗ (((c : Thread nD τ).loc main_arg1) ↦{fullShare} wArr m c) ∗ scratch c
    ∗ (∃ W, owes (c : Thread nD τ) 0 W) ∗ xPts m c ∗ (((c : Thread nD τ).loc cc0_stg1_0) ↦{fullShare} outAt m c))

/-- What the steps leave, the receive credits and the cells' positions are the waits' start. -/
theorem before_all (c : Dev nD) :
    iprop(bigSep Finset.univ (done m c) ∗ landing c ∗ bigSep Finset.univ fun d : Fin 32 => iprop(atPos ER (sendCell c d) 0 ∅ 0 ∗ atPos ER (recvCell c d) 0 ∅ 0))
      ⊢ mix (before m c) (after m c) 0 := by
  rw [mix_zero, done_all]
  unfold landing
  rw [← bigSep_sep', ← bigSep_sep']
  exact BI.Entails.refl _

/-- After all waits the result and the staging scratch are whole and computed, and the counters are at zero. -/
theorem after_all (c : Dev nD) :
    mix (before m c) (after m c) 32 ⊢ iprop((((c : Thread nD τ).loc cc0_stg1_0) ↦{fullShare} outAt m c) ∗ (((c : Thread nD τ).loc cc0_scratch1) ↦{fullShare} stgAt m c)
      ∗ bigSep Finset.univ fun d : Fin 32 => iprop(semVal (sendCell c d) 0 ∗ semVal (recvCell c d) 0)) := by
  rw [mix_end _ _ (le_refl 32), oPts_all, ← slices_all]
  unfold after
  rw [← bigSep_sep', ← bigSep_sep']

/-- The waits, the tested word the one the body computes. -/
theorem wp_waits (c : Fin 32) {v2 : BitVec 32} (hv : v2 = selfWord c) (a n b : ℕ) (hab : a + n = b) (ha : b ≤ 32) {α : Type} (k : PUnit → KProg F α) (Q : α → sProp 𝕄) (W : Waits sig Unit) :
    iprop(records m K ∗ mix (before m c) (after m c) a ∗ owes (c : Thread nD τ) 0 W)
      ⊢ iprop(((mix (before m c) (after m c) b ∗ ∃ W, owes (c : Thread nD τ) 0 W) -∗ WP c (k ⟨⟩) Q) -∗ WP c (waitsN v2 a n >>= k) Q) := by
  subst hv hab
  exact wp_waitsN m K c n k Q a ha W

set_option maxHeartbeats 4000000 in
/-- The body, from what the launch gives to what the exit takes. -/
theorem body_wp (c : Dev nD) (Kt : PUnit → sProp 𝕄) :
    iprop(bodyPre m K c ∗ (bodyPost m c -∗ Kt ⟨⟩)) ⊢ WP c (cc0_body (F := F) xM (Memref.isWhole_whole _) wM (Memref.isWhole_whole _) oM (Memref.isWhole_whole _) bM (Memref.isWhole_whole _) gM (Memref.isWhole_whole _) cc0_scratch2 cc0_scratch3 cc0_scratch4) Kt := by
  rw [body_eq, k0_part2_eq_skeleton]
  unfold k0_part2_skel
  simp only [semWaitWord, Prog.lift, Prog.bind_op, Prog.bind_ret, Prog.pure_eq_ret, Prog.bind_assoc, wp_deviceId]
  unfold bodyPre ghost scratch O₀
  iintro ⟨⟨⟨#HR, HaB, Hat, HtB, HtC, Hv0, Hv1⟩, HcB, HcV, #Hl, Hw, ⟨⟨%f0, Hb⟩, ⟨%f1, Hs⟩⟩, ⟨%W, HO⟩, Hx, ⟨%fo, Ho⟩⟩, Hk⟩
  ihave Ho' := (Entails.of_eq (oPts_all c fo)) $$ Ho
  iapply (Scf.wp_for_bind frame (wpE (defs₀ (F := F)) 𝒱₀ (c : Thread nD τ) none) Set.univ _ _ _ _ _ _ (barInv m K fo c) (enter_wp m K fo c)) $$ [Ho' HtB HO]
  · unfold barInv
    isplitr; · iexact HR
    isplitl [Ho' HtB]
    · rw [mix_zero, bigSep_sep']
      isplitl [Ho'] <;> iassumption
    iexists W; iexact HO
  iintro %u HI
  unfold barInv
  icases HI with ⟨-, -, ⟨%W, HO⟩⟩
  rw [show Orem c 0 + Obar (Scf.trips k0_t1_loop.lb k0_t1_loop.ub k0_t1_loop.st) = Orem c 0 from by
    rw [show Scf.trips k0_t1_loop.lb k0_t1_loop.ub k0_t1_loop.st = 32 from trips1]; unfold Obar; rw [tail_end _ (le_refl 32), add_zero]]
  iapply (wp_entered m K c) $$ [HcB HaB HO]
  · isplitr; · iexact HR
    isplitr; · iexact Hl
    isplitl [HcB]; · iexact HcB
    isplitl [HaB] <;> iassumption
  iintro ⟨Hp, HzB, ⟨%W, HO⟩⟩
  ihave Hpend := (pend_all (F := F) c) $$ [Hp HtC]
  · isplitl [Hp] <;> iassumption
  ihave Hw' := (wPts_split m c) $$ Hw
  icases Hw' with ⟨Hw0, Hw1⟩
  ihave Hb' := (show (((c : Thread nD τ).loc cc0_scratch0) ↦{fullShare} f0 : sProp 𝕄) ⊢ iprop(bPts c 0 f0 ∗ bPts c 1 f0) from by
    rw [bPts_all, bigSep_two]) $$ Hb
  icases Hb' with ⟨Hb0, Hb1⟩
  iapply (wp_first m c (grp c 0) (off1_eq c)) $$ [Hb0 Hv0 Hw0]
  · unfold free
    isplitl [Hb0]; · iexists f0; iexact Hb0
    isplitl [Hv0] <;> iassumption
  iintro Hfl
  iapply (Scf.wp_for_bind frame (wpE (defs₀ (F := F)) 𝒱₀ (c : Thread nD τ) none) Set.univ _ _ _ _ _ _ (tripInv m K f1 c)
    (fun t u => (trip_wp m K f1 c t u).trans (Entails.of_eq (by rw [trip_eq])))) $$ [Hx Hfl Hb1 Hv1 Hw1 Hs Hpend HO]
  · unfold tripInv slots
    isplitr; · iexact HR
    isplitr; · iexact Hl
    isplitl [Hx]; · iexact Hx
    isplitl [Hfl Hb1 Hv1 Hw1]
    · isplitl [Hfl]; · rw [if_pos (by decide)]; iexact Hfl
      unfold free
      isplitl [Hb1]; · iexists f0; iexact Hb1
      isplitl [Hv1]; · iexact Hv1
      iexact Hw1
    isplitl [Hs]; · rw [mix_zero, ← sPts_all]; iexact Hs
    isplitl [Hpend]; · rw [Nat.mul_zero, mix_zero]; iexact Hpend
    iexists W; iexact HO
  iintro %u HI
  rw [show Scf.trips k0_t2_loop.lb k0_t2_loop.ub k0_t2_loop.st = 8 from trips2]
  unfold tripInv slots
  rw [if_neg (Nat.lt_irrefl 8), show Orem c (4 * 8) = 0 from tail_end _ (le_refl 32), mix_end (pend c) (done m c) (show 32 ≤ 4 * 8 from le_refl 32)]
  icases HI with ⟨-, -, Hx, ⟨Hf0, Hf1⟩, -, Hdone, ⟨%W, HO⟩⟩
  ihave HM := (before_all m c) $$ [Hdone HcV Hat]
  · isplitl [Hdone]; · iexact Hdone
    isplitl [HcV] <;> iassumption
  iapply (wp_waits m K c rfl 0 9 9 rfl (by decide)) $$ [HM HO]
  · isplitr; · iexact HR
    isplitl [HM] <;> iassumption
  iintro ⟨HM, ⟨%W, HO⟩⟩
  iapply (wp_waits m K c rfl 9 10 19 rfl (by decide)) $$ [HM HO]
  · isplitr; · iexact HR
    isplitl [HM] <;> iassumption
  iintro ⟨HM, ⟨%W, HO⟩⟩
  iapply (wp_waits m K c rfl 19 10 29 rfl (by decide)) $$ [HM HO]
  · isplitr; · iexact HR
    isplitl [HM] <;> iassumption
  iintro ⟨HM, ⟨%W, HO⟩⟩
  iapply (wp_waits m K c rfl 29 3 32 rfl (by decide)) $$ [HM HO]
  · isplitr; · iexact HR
    isplitl [HM] <;> iassumption
  iintro ⟨HM, ⟨%W, HO⟩⟩
  ihave HM' := (after_all m c) $$ HM
  icases HM' with ⟨Ho, Hs, Hz⟩
  iapply (wp_done c)
  iapply Hk
  unfold free
  icases Hf0 with ⟨Hb0, Hv0, Hw0⟩
  icases Hf1 with ⟨Hb1, Hv1, Hw1⟩
  unfold bodyPost zeros scratch
  isplitl [HzB Hv0 Hv1 Hz]
  · isplitl [HzB]; · iexact HzB
    isplitl [Hv0 Hv1]
    · isplitl [Hv0]; · iexact Hv0
      iexact Hv1
    iexact Hz
  isplitl [Hw0 Hw1]
  · iapply (wPts_join m c)
    isplitl [Hw0]; · iexact Hw0
    iexact Hw1
  isplitl [Hb0 Hb1 Hs]
  · isplitl [Hb0 Hb1]
    · iapply (bPts_join c)
      isplitl [Hb0]; · iexact Hb0
      iexact Hb1
    iexists _; iexact Hs
  isplitl [HO]; · iexists W; iexact HO
  isplitl [Hx]; · iexact Hx
  iexact Ho

end Cert.A2A
-- ==== Proof.Data.lean ====
/-
The pipeline's proof data of the one region, and the body obligation they need.
-/
module

public import proofs.«01_k».proof.Proof.Body

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data: one point, the whole body -/

/-- The grid has one point, -/
theorem cfg0_N : cfg0.N = 1 := by decide
def t₀ : Fin cfg0.N := ⟨0, by rw [cfg0_N]; decide⟩
/-- so every point is that one. -/
theorem fin_N (t : Fin cfg0.N) : t = t₀ := by
  obtain ⟨t, ht⟩ := t; have := cfg0_N; exact Fin.ext (by simp only [t₀]; omega)

/-- What device `c` holds at the region's entry. -/
def start (c : Dev nD) : sProp 𝕄 :=
  iprop((∃ K, ghost m K c) ∗ cred (tallyAt (barCell c) () 32) ∗ landing c ∗ levAts L lv ∗ (((c : Thread nD τ).loc main_arg1) ↦{fullShare} wArr m c))

/-- Before the point, -/
def Φ₀ (c : Dev nD) : sProp 𝕄 := iprop(start m c ∗ scratch c)
/-- and after it. -/
def Φ₁ (c : Dev nD) : sProp 𝕄 := iprop(zeros c ∗ (((c : Thread nD τ).loc main_arg1) ↦{fullShare} wArr m c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The left operand is fetched at the point. -/
theorem fetch_0 (t : Fin cfg0.N) : (cfg0.win (0 : Fin 2)).fetch t = true := by rw [fin_N t]; rfl

/-- Owning a whole buffer with contents `X` is holding it at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the library hands the body, -/
def handed (c : Dev nD) : sProp 𝕄 :=
  iprop(Φ₀ m c ∗ (dats m 0 c).owesAt () t₀.castSucc
    ∗ (∃ d, stg c cc0_stg0_0 ((dats m 0 c).before (0 : Fin 2) t₀ d)) ∗ (∃ d, stg c cc0_stg1_0 ((dats m 0 c).before (1 : Fin 2) t₀ d)))
/-- and takes back. -/
def returned (c : Dev nD) : sProp 𝕄 :=
  iprop(Φ₁ m c ∗ (dats m 0 c).owesAt () t₀.succ ∗ stg c cc0_stg0_0 (xstg m c) ∗ stg c cc0_stg1_0 (outAt m c))

set_option maxRecDepth 4000 in
set_option maxHeartbeats 1000000 in
/-- The body takes what it is handed to what it returns. -/
theorem handed_wp (c : Dev nD) : handed m c ⊢ WP c (cc0_body (F := F) xM (Memref.isWhole_whole _) wM (Memref.isWhole_whole _) oM (Memref.isWhole_whole _) bM (Memref.isWhole_whole _) gM (Memref.isWhole_whole _) cc0_scratch2 cc0_scratch3 cc0_scratch4) (fun _ => returned m c) := by
  unfold handed Φ₀ start Dat.owesAt Pipeline.owesWithin
  iintro ⟨⟨⟨⟨%K, Hg⟩, HcB, HcV, Hl, Hw⟩, Hs⟩, ⟨%W, %hW, HO⟩, ⟨%d0, %g0, %hg0, Hx⟩, ⟨%d1, %g1, %hg1, Ho⟩⟩
  have hx : g0 = xstg m c := by
    rw [hg0]; unfold Dat.before; rw [if_pos (fetch_0 t₀)]; rfl
  subst hx
  iapply (body_wp m K c fun _ => returned m c)
  unfold bodyPre xPts
  isplitl
  · isplitl [Hg]; · iexact Hg
    isplitl [HcB]; · iexact HcB
    isplitl [HcV]; · iexact HcV
    isplitl [Hl]; · iexact Hl
    isplitl [Hw]; · iexact Hw
    isplitl [Hs]; · iexact Hs
    isplitl [HO]; · iexists W; iexact HO
    isplitl [Hx]; · iexact Hx
    iexists g1; iexact Ho
  unfold bodyPost xPts returned Φ₁ Dat.owesAt Pipeline.owesWithin
  iintro ⟨Hz, Hw, Hs, ⟨%W, HO⟩, Hx, Ho⟩
  isplitl [Hz Hw Hs]
  · isplitl [Hz]; · iexact Hz
    isplitl [Hw]; · iexact Hw
    iexact Hs
  isplitl [HO]
  · iexists W
    isplitr; · ipureintro; exact fun _ _ => Or.inl trivial
    iexact HO
  isplitl [Hx]
  · iexists _
    isplitr; · ipureintro; rfl
    iexact Hx
  iexists _
  isplitr; · ipureintro; rfl
  iexact Ho

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  exact handed_wp m c

/-- Every staged window is held with the full share. -/
theorem share_eq (c : Dev nD) (w : Fin cfg0.W) : (dats m 0 c).share w = fullShare := by unfold Dat.share; split <;> rfl

/-- A device may wait on a staging cell at the point's entry and at its exit. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_all c _ (by fin_cases w <;> fin_cases s <;> rfl)
    · exact mayWait_none c _

end Cert.A2A
-- ==== Proof.Deal.lean ====
/-
The launch's ghost state: the cells' invariants allocated, the duty tokens dealt to the devices that pay.
-/
module

public import proofs.«01_k».proof.Proof.Data

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The cells and the tokens -/

/-- The kernel's own semaphores: two weight copies, 32 sends, 32 receives. -/
abbrev OI : Type := Fin 2 ⊕ (Fin 32 ⊕ Fin 32)
def osem : OI → SemLoc sig
  | .inl σ => .dma (copyQ σ)
  | .inr (.inl t) => .dma (sendQ t)
  | .inr (.inr d) => .dma (recvQ d)

/-- The number of one of them. -/
def num : OI → ℕ
  | .inl σ => 2 + σ.val
  | .inr (.inl t) => 4 + t.val
  | .inr (.inr d) => 36 + d.val
/-- Each of the kernel's own semaphores is the one of its number. -/
theorem osem_num (k : OI) : ∃ h, osem k = .dma (⟨num k, h⟩ : DmaSem sig) := by
  rcases k with σ | t | d
  · exact ⟨(copyQ σ).isLt, rfl⟩
  · exact ⟨(sendQ t).isLt, rfl⟩
  · exact ⟨(recvQ d).isLt, rfl⟩
/-- Different ones have different numbers. -/
theorem num_injective : Function.Injective num := by
  rintro (σ | t | d) (σ' | t' | d') h <;> simp only [num] at h
  · exact congrArg Sum.inl (Fin.ext (by omega))
  · have := σ.isLt; omega
  · have := σ.isLt; omega
  · have := σ'.isLt; omega
  · exact congrArg (Sum.inr ∘ Sum.inl) (Fin.ext (by omega))
  · have := t.isLt; omega
  · have := σ'.isLt; omega
  · have := t'.isLt; omega
  · exact congrArg (Sum.inr ∘ Sum.inr) (Fin.ext (by omega))
/-- The numbers begin at 2: the two below belong to the staged windows. -/
theorem num_ge (k : OI) : 2 ≤ num k := by rcases k with σ | t | d <;> simp only [num] <;> omega

/-- Every transfer semaphore is scoped to the call. -/
theorem dma_scoped : ∀ q : DmaSem sig, (SemLoc.dma q).isScoped .tc = true := by decide +kernel

/-- The kernel's own semaphores are distinct, scoped, and none of the staged windows'. -/
theorem ownSemFacts : Pipeline.OwnSemFacts cfg0.spec osem where
  isScoped k := by obtain ⟨h, e⟩ := osem_num k; rw [e]; exact dma_scoped _
  inj a b e := by
    obtain ⟨h, ea⟩ := osem_num a
    obtain ⟨h', eb⟩ := osem_num b
    rw [ea, eb] at e
    exact num_injective (Fin.mk.inj (SemLoc.dma.inj e))
  disj k w s e := by
    obtain ⟨h, ek⟩ := osem_num k
    rw [ek] at e
    have h2 := num_ge k
    have h3 : num k = ((cfg0.spec w).sem s).val := congrArg Fin.val (SemLoc.dma.inj e)
    have h4 : ((cfg0.spec w).sem s).val < 2 := by fin_cases w <;> fin_cases s <;> decide
    omega

def cells : Finset (GSem nD τ sig) := Finset.univ.map ⟨kcell, kcell_injective⟩

/-- The duty tokens as minted: a device's cells', by the paying device (barrier) or the one duty (send, receive). -/
abbrev TI : Type := Fin 32 ⊕ (Fin 32 ⊕ Fin 32)
def tokCell : TI → CI
  | .inl _ => .inl ()
  | .inr k => .inr k
def tokDuty : TI → Fin 32
  | .inl p => p
  | .inr _ => 0
def tokOf (x : Dev nD × TI) : GSem nD τ sig × ℕ × Fin 32 := (kcell (x.1, tokCell x.2), 0, tokDuty x.2)
/-- Different token indices name different duties. -/
theorem tokOf_injective : Function.Injective tokOf := by
  rintro ⟨c, j⟩ ⟨c', j'⟩ h
  have h1 : (c, tokCell j) = (c', tokCell j') := kcell_injective (congrArg Prod.fst h)
  have h2 : tokDuty j = tokDuty j' := congrArg (fun x : GSem nD τ sig × ℕ × Fin 32 => x.2.2) h
  have h3 : c = c' := congrArg Prod.fst h1
  have h4 : tokCell j = tokCell j' := congrArg Prod.snd h1
  subst h3
  rcases j with p | k <;> rcases j' with p' | k'
  · exact congrArg (fun p => (c, Sum.inl p)) h2
  · cases h4
  · cases h4
  · exact congrArg (fun k => (c, Sum.inr k)) (Sum.inr.inj h4)
def tokens : Finset (GSem nD τ sig × ℕ × Fin 32) := Finset.univ.map ⟨tokOf, tokOf_injective⟩

def u₀ : UU := (initOf (Pipeline.cells cfgs cellOf_inj) (Pipeline.launchToks cfgs cellOf_inj), (initOf cells tokens, 1))

/-- The tokens of device `c`'s own cells. -/
def toks (c : Dev nD) : sProp 𝕄 :=
  iprop((bigSep Finset.univ fun p : Fin 32 => dutyTok ER (barCell c) 0 p)
    ∗ (bigSep Finset.univ fun t : Fin 32 => dutyTok ER (sendCell c t) 0 0) ∗ bigSep Finset.univ fun d : Fin 32 => dutyTok ER (recvCell c d) 0 0)
/-- The tokens of the duties device `c` pays. -/
def payToks (c : Dev nD) : sProp 𝕄 :=
  iprop((bigSep Finset.univ fun d : Fin 32 => dutyTok ER (barCell d) 0 c)
    ∗ bigSep Finset.univ fun t : Fin 32 => iprop(dutyTok ER (recvCell t c) 0 0 ∗ dutyTok ER (sendCell c t) 0 0))

/-- The tokens of all cells are the tokens of all payers. -/
theorem toks_dealt : (bigSep Finset.univ fun c : Dev nD => (toks c : sProp 𝕄)) ⊢ bigSep Finset.univ fun c : Dev nD => payToks c := by
  unfold toks payToks
  simp only [bigSep_sep']
  rw [bigSep_univ_comm (fun (c : Dev nD) (p : Fin 32) => (dutyTok ER (barCell c) 0 p : sProp 𝕄)),
    bigSep_univ_comm (fun (c : Dev nD) (d : Fin 32) => (dutyTok ER (recvCell c d) 0 0 : sProp 𝕄))]
  iintro ⟨H1, H2, H3⟩
  isplitl [H1]; · iexact H1
  isplitl [H3]; · iexact H3
  iexact H2

/-- A product over a device's cells: its barrier, its sends, its receives. -/
theorem bigSep_three (Φ : CI → sProp 𝕄) : bigSep Finset.univ Φ
    = iprop(Φ (.inl ()) ∗ (bigSep Finset.univ fun t => Φ (.inr (.inl t))) ∗ bigSep Finset.univ fun d => Φ (.inr (.inr d))) := by
  rw [bigSep_univ_sum, bigSep_univ_sum, show (Finset.univ : Finset Unit) = {()} from rfl, bigSep_singleton]; rfl
/-- A product over a device's own semaphores: two weight copies, the sends, the receives. -/
theorem bigSep_own (Φ : OI → sProp 𝕄) : bigSep Finset.univ Φ
    = iprop((Φ (.inl 0) ∗ Φ (.inl 1)) ∗ (bigSep Finset.univ fun t => Φ (.inr (.inl t))) ∗ bigSep Finset.univ fun d => Φ (.inr (.inr d))) := by
  rw [bigSep_univ_sum, bigSep_univ_sum, bigSep_two]; rfl
/-- A product over a device's tokens: the barrier's, the sends', the receives'. -/
theorem bigSep_toks (Φ : TI → sProp 𝕄) : bigSep Finset.univ Φ
    = iprop((bigSep Finset.univ fun p => Φ (.inl p)) ∗ (bigSep Finset.univ fun t => Φ (.inr (.inl t))) ∗ bigSep Finset.univ fun d => Φ (.inr (.inr d))) := by
  rw [bigSep_univ_sum, bigSep_univ_sum]; rfl

/-! ## What the launch element deals -/

/-- Device `c`'s share of it. -/
def G (c : Dev nD) : sProp 𝕄 :=
  iprop((bigSep Finset.univ fun k : CI => roundState ER (a2a m) (kcell (c, k)) 0)
    ∗ (bigSep Finset.univ fun k : CI => iprop(atPos ER (kcell (c, k)) 0 ∅ 0 ∗ reached ER (kcell (c, k)) 0)) ∗ toks c)
/-- What the global step makes of it. -/
def G' (c : Dev nD) : sProp 𝕄 := iprop(∃ K, ghost m K c)

/-- A product over all cells, device by device. -/
theorem bigSep_cells (Φ : GSem nD τ sig → sProp 𝕄) :
    bigSep cells Φ = bigSep Finset.univ fun c : Dev nD => bigSep Finset.univ fun k : CI => Φ (kcell (c, k)) := by
  unfold cells; rw [bigSep_map, bigSep_univ_prod]; rfl
/-- The product of all tokens, device by device. -/
theorem bigSep_tokens : bigSep tokens (fun x => (dutyTok ER x.1 x.2.1 x.2.2 : sProp 𝕄)) = bigSep Finset.univ fun c : Dev nD => toks c := by
  unfold tokens; rw [bigSep_map, bigSep_univ_prod]
  exact bigSep_congr fun c _ => by unfold toks; rw [bigSep_toks]; rfl

/-- The element of the launch gives every device its share. -/
theorem fund : BI.own (ER (initOf cells tokens)) ⊢ (|==> bigSep Finset.univ (G m) : sProp 𝕄) := by
  iintro HX
  imod (Rounds.fund ER (a2a m) cells tokens) $$ HX with ⟨Hst, Hr, Hat, Htok⟩
  imodintro
  ihave Hst' := (Entails.of_eq (bigSep_cells fun g => roundState ER (a2a m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_tokens) $$ Htok
  unfold G; simp only [bigSep_sep']
  isplitl [Hst']; · iexact Hst'
  isplitl [Hat' Hr']
  · isplitl [Hat'] <;> iassumption
  iexact Htok'

/-- A device's own semaphores at zero, spelled out. -/
theorem ownSems0_eq (c : Dev nD) : (Pipeline.ownSems0 (Ix := Unit) (Name := ℕ) (U := UU) (Lvl := ℕ) (Val := Elt F) (τ := τ) osem c : sProp 𝕄)
    = iprop((semVal (copyCell c 0) 0 ∗ semVal (copyCell c 1) 0) ∗ (bigSep Finset.univ fun t => semVal (sendCell c t) 0) ∗ bigSep Finset.univ fun d => semVal (recvCell c d) 0) := by
  unfold Pipeline.ownSems0
  rw [bigSep_own]; rfl
/-- The one semaphore that outlives the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The rounds' cells on device `c` with their invariants, its positions and tokens, and the weight copies' counters. -/
def given (c : Dev nD) : sProp 𝕄 :=
  iprop((bigSep Finset.univ fun k => iprop(∃ κ : ℕ, cellInv ER (a2a m) κ (kcell (c, k))))
    ∗ (bigSep Finset.univ fun k => iprop(atPos ER (kcell (c, k)) 0 ∅ 0 ∗ reached ER (kcell (c, k)) 0)) ∗ toks c
    ∗ semVal (copyCell c 0) 0 ∗ semVal (copyCell c 1) 0)

/-- A device's counters at zero and its cells' first states give its cells' invariants. -/
theorem cells_alloc (c : Dev nD) :
    iprop((bigSep Finset.univ fun k : CI => semVal (kcell (c, k)) 0) ∗ bigSep Finset.univ fun k : CI => roundState ER (a2a m) (kcell (c, k)) 0)
      ⊢ (|={Set.univ}=> bigSep Finset.univ fun k => iprop(∃ κ : ℕ, cellInv ER (a2a m) κ (kcell (c, k))) : sProp 𝕄) := by
  rw [← bigSep_sep']
  exact (bigSep_mono fun k _ => (Rounds.body_intro ER (a2a m) (kcell (c, k))).trans inv_alloc).trans (bigSep_fupd _ _)

/-- So a device's semaphores and its share of the launch element give what `given` lists. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> given m c := by
  rw [ownSems0_eq, unscopedSems0_eq]
  unfold G
  iintro ⟨⟨⟨H0, H1⟩, HS, HV⟩, HB, Hst, Hat, Htok⟩
  imod (cells_alloc m c) $$ [HB HS HV Hst] with Hinv
  · isplitr [Hst]
    · rw [bigSep_three]
      isplitl [HB]; · iexact HB
      isplitl [HS]; · iexact HS
      iexact HV
    iexact Hst
  imodintro
  unfold given
  isplitl [Hinv]; · iexact Hinv
  isplitl [Hat]; · iexact Hat
  isplitl [Htok]; · iexact Htok
  isplitl [H0]; · iexact H0
  iexact H1

/-- What stays with device `c`. -/
def linear (c : Dev nD) : sProp 𝕄 :=
  iprop((bigSep Finset.univ fun k : CI => atPos ER (kcell (c, k)) 0 ∅ 0) ∗ payToks c ∗ semVal (copyCell c 0) 0 ∗ semVal (copyCell c 1) 0)

/-- The records and what stays with a device are its part of the protocol. -/
theorem ghost_intro (K : Dev nD × CI → ℕ) (c : Dev nD) : iprop(records m K ∗ linear c) ⊢ G' m c := by
  unfold linear payToks G' ghost
  rw [bigSep_three]
  iintro ⟨#HR, ⟨HaB, HaS, HaV⟩, ⟨HtB, HtC⟩, H0, H1⟩
  iexists K
  isplitr; · iexact HR
  isplitl [HaB]; · iexact HaB
  isplitl [HaS HaV]
  · rw [bigSep_sep']
    isplitl [HaS]; · iexact HaS
    iexact HaV
  isplitl [HtB]; · iexact HtB
  isplitl [HtC]; · iexact HtC
  isplitl [H0]; · iexact H0
  iexact H1

/-- The records can be used on every device at once. -/
theorem with_records {K : Dev nD × CI → ℕ} {Φ Ψ : Dev nD → sProp 𝕄} (h : ∀ c, iprop(records m K ∗ Φ c) ⊢ Ψ c) :
    iprop(records m K ∗ bigSep Finset.univ Φ) ⊢ bigSep Finset.univ Ψ :=
  (sep_mono_left (BI.bigSep_of_persistent Finset.univ (records m K))).trans (by rw [← bigSep_sep']; exact bigSep_mono fun c _ => h c)

/-- What all devices are given is every device's part of the protocol. -/
theorem regroup : (bigSep Finset.univ (given m) : sProp 𝕄) ⊢ bigSep Finset.univ (G' m) := by
  unfold given
  simp only [bigSep_sep']
  rw [← bigSep_univ_prod (fun ck : Dev nD × CI => iprop(∃ κ : ℕ, cellInv ER (a2a m) κ (kcell ck))),
    ← bigSep_univ_prod (fun ck : Dev nD × CI => (reached ER (kcell ck) 0 : sProp 𝕄))]
  iintro ⟨HI, ⟨Hat, #HR⟩, Htok, H0, H1⟩
  ihave HK := (BI.bigSep_exists_pi Finset.univ (fun (ck : Dev nD × CI) (κ : ℕ) => (cellInv ER (a2a m) κ (kcell ck) : sProp 𝕄))) $$ HI
  icases HK with ⟨%K, #HI⟩
  ihave Htk := (toks_dealt (F := F)) $$ Htok
  iapply (with_records m (K := K) (Φ := linear) fun c => ghost_intro m K c)
  isplitr
  · unfold records
    isplitr; · iexact HI
    iexact HR
  unfold linear
  rw [bigSep_sep', bigSep_sep', bigSep_sep']
  isplitl [Hat]; · iexact Hat
  isplitl [Htk]; · iexact Htk
  isplitl [H0]; · iexact H0
  iexact H1

/-- The global step of the launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.A2A
-- ==== Proof.Run.lean ====
/-
The launch: what the devices owe together, and the run of @main at any float values.
-/
module

public import proofs.«01_k».proof.Proof.Deal
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The launch credit: what the devices owe together -/

/-- A barrier cell is no receive cell. -/
theorem ne_bar_recv (a b d : Fin 32) : barCell a ≠ recvCell b d := fun h => by
  have := congrArg (fun g : GSem nD τ sig => dec g.2) h
  rw [dec_bar, dec_recv] at this
  cases this

/-- Device `d` owes a barrier cell one unit, -/
theorem owed_bar (d c : Dev nD) : O₀ d (barCell c) () = 1 := by
  unfold O₀
  rw [Pi.add_apply, Finsupp.add_apply]
  have h0 : Orem d 0 (barCell c) () = 0 := by
    by_contra hn
    obtain ⟨t, e, h⟩ := Orem_pos (Nat.pos_of_ne_zero hn)
    exact ne_bar_recv _ _ _ h
  unfold Obar
  rw [h0, tail_zero, Finset.sum_apply, Finsupp.finset_sum_apply, Nat.zero_add, Finset.sum_eq_single c]
  · rw [tallyAt_apply, if_pos ⟨rfl, rfl⟩]
  · intro b _ hb
    rw [tallyAt_apply, if_neg fun h => hb (Prod.ext_iff.mp (kcell_injective (a₁ := (c, .inl ())) (a₂ := (b, .inl ())) h.1)).1.symm]
  · intro h; exact absurd (Finset.mem_univ c) h

/-- and the cell of its copy to `c`, another device, the copy's credit. -/
theorem owed_recv (d c e : Fin 32) : O₀ d (recvCell c e) () = if d = e then (if e = c then 0 else N) else 0 := by
  unfold O₀
  rw [Pi.add_apply, Finsupp.add_apply]
  have h0 : Obar 0 (recvCell c e) () = 0 := by
    by_contra hn
    obtain ⟨t, h⟩ := Obar_pos (Nat.pos_of_ne_zero hn)
    exact ne_bar_recv _ _ _ h.symm
  have hk (t f : Fin 32) (h : recvCell t f = recvCell c e) : t = c ∧ f = e := by
    have := Prod.ext_iff.mp (kcell_injective (a₁ := (t, .inr (.inr f))) (a₂ := (c, .inr (.inr e))) h)
    exact ⟨this.1, Sum.inr.inj (Sum.inr.inj this.2)⟩
  unfold Orem
  rw [h0, tail_zero, Finset.sum_apply, Finsupp.finset_sum_apply, Nat.add_zero, Finset.sum_eq_single (stp d c)]
  · unfold rem
    rw [tgt_stp]
    by_cases hd : d = e
    · subst hd
      by_cases hc : d = c
      · rw [if_pos hc.symm, if_pos rfl, if_pos hc]; rfl
      · rw [if_neg (fun h => hc h.symm), if_pos rfl, if_neg hc, tallyAt_apply, if_pos ⟨rfl, rfl⟩]
    · rw [if_neg hd]
      by_cases hc : c = d
      · rw [if_pos hc]; rfl
      · rw [if_neg hc, tallyAt_apply, if_neg fun h => hd (hk _ _ h.1.symm).2]
  · intro n _ hn
    unfold rem
    by_cases ht : tgt d n = d
    · rw [if_pos ht]; rfl
    · rw [if_neg ht, tallyAt_apply, if_neg fun h => hn (by rw [← (hk _ _ h.1.symm).1, stp_tgt])]
  · intro h; exact absurd (Finset.mem_univ _) h

/-- All devices together owe a barrier cell 32 units, -/
theorem launch_bar (c : Dev nD) :
    tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const]; rfl

/-- and a receive cell one block's credit, unless it is the device's for itself. -/
theorem launch_recv (c e : Fin 32) (h : e ≠ c) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e, if_neg h,
    Finset.sum_ite_eq' Finset.univ e fun _ => N, if_pos (Finset.mem_univ _)]

/-- Different devices have different receive semaphores. -/
theorem recvQ_injective : Function.Injective fun d : Fin 32 => (SemLoc.dma (recvQ d) : SemLoc sig) := fun a b h => by
  have := congrArg dec h
  simp only [dec_recv] at this
  exact Sum.inr.inj (Sum.inr.inj (Option.some.inj this))

/-- Credit can be dropped. -/
theorem drop_cred (T : CellTallies nD τ sig Unit) : (cred T : sProp 𝕄) ⊢ iprop(emp) := by
  iintro -; iempintro

/-- So the launch gives a device the credit of its barrier and of the copies to it. -/
theorem creds (c : Dev nD) : (Pipeline.launchCred O₀ c : sProp 𝕄) ⊢ iprop(cred (tallyAt (barCell c) () 32) ∗ landing c) := by
  classical
  unfold Pipeline.launchCred
  rw [bigSep_univ_at _ (SemLoc.reg barS), launch_bar]
  refine sep_mono_right ?_
  refine (bigSep_subset (t := Finset.univ.map ⟨fun d : Fin 32 => (SemLoc.dma (recvQ d) : SemLoc sig), recvQ_injective⟩) fun x hx => ?_).trans ?_
  · obtain ⟨d, -, rfl⟩ := Finset.mem_map.mp hx
    exact Finset.mem_erase.mpr ⟨fun h => (by cases h), Finset.mem_univ _⟩
  rw [bigSep_map]
  unfold landing
  refine bigSep_mono fun d _ => ?_
  by_cases h : d = c
  · rw [if_pos h]; exact drop_cred _
  · rw [if_neg h, ← launch_recv c d h]; exact BI.Entails.refl _

/-! ## The launch theorem's side conditions -/

/-- The one array outside the staged windows is the weights'. -/
theorem unscoped_eq (c : Dev nD) :
    (Pipeline.unscopedRestP (Ix := Unit) (Name := ℕ) (U := UU) (Lvl := ℕ) Pipeline.Prefetch.none cfg0.spec c (fun b => m ((c : Thread nD τ).loc b)) : sProp 𝕄)
      = (((c : Thread nD τ).loc main_arg1) ↦{fullShare} wArr m c) :=
  Pipeline.unscopedRestP_eq_of_list cfg0.spec c Pipeline.Prefetch.none _ [main_arg1] (by decide) (by decide)

/-- What the launch gives a device is what it holds at the region's entry. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [unscoped_eq]
  iintro ⟨Hw, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    iexact Hw
  · iempintro

/-- With the scratch it is the body's start, -/
theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What device `c` ends with beside its staged arrays: its barrier counter at zero, its weights. -/
def ending (c : Dev nD) : sProp 𝕄 := iprop(unscopedSems0 c ∗ (((c : Thread nD τ).loc main_arg1) ↦{fullShare} wArr m c))

/-- and the body's end gives the scratch and the counters back. -/
theorem phi_exit (c : Dev nD) :
    (dats m 0 c).Φ (Fin.last cfg0.N) ⊢ iprop(ending m c ∗ Pipeline.ownSems0 osem c ∗ Pipeline.scopedRest cfg0.spec c) := by
  rw [show (dats m 0 c).Φ (Fin.last cfg0.N) = Φ₁ m c from rfl, scopedRest0_eq, ownSems0_eq]
  unfold Φ₁ ending zeros scratch
  rw [unscopedSems0_eq, bigSep_sep']
  iintro ⟨⟨HB, HC, HS, HV⟩, Hw, Hr⟩
  isplitl [HB Hw]
  · isplitl [HB]; · iexact HB
    iexact Hw
  isplitl [HC HS HV]
  · isplitl [HC]; · iexact HC
    isplitl [HS]; · iexact HS
    iexact HV
  iexact Hr

/-! ## The run -/

/-- The contents of window `w`'s array after the run. -/
def finalA (c : Dev nD) (w : Fin cfg0.W) : Buf (Elt F) ((cfg0.win w).arr.view.loc (c : Thread nD τ)) := (dats m 0 c).arrAt w cfg0.N

/-- What a device's end says of the final state: unscoped counters at zero, weights as launched. -/
def Ended (c : Dev nD) (s : MemSt nD τ sig (Elt F)) : Prop :=
  (∀ sm : SemLoc sig, sm.isScoped .tc = false → s.sem ((c.tc : Thread nD τ), sm) = 0) ∧ s.mem ((c.tc : Thread nD τ).loc main_arg1) = m ((c.tc : Thread nD τ).loc main_arg1)

/-- A device's end shows in the final state. -/
theorem ending_read (c : Dev nD) (s' : Phys nD τ sig (Elt F)) :
    iprop(ending m c ∗ emp ∗ SI s') ⊢ |={Set.univ}=> iprop(⌜Ended m c s'.mem⌝ ∗ SI s' : sProp 𝕄) := by
  unfold ending Ended
  iintro ⟨⟨Hu, Hw⟩, -, HSI⟩
  icombine HSI Hw gives %h
  imod (Pipeline.unscopedSems0_read (X := unscopedSems0 c) (c := c) fupd_intro s') $$ [Hu HSI] with ⟨%h', HSI⟩
  · isplitl [Hu] <;> iassumption
  imodintro
  isplitr
  · ipureintro; exact ⟨h', Buf.eq_of_forall_mem_univ h⟩
  iexact HSI

/-- The run's post: every staged array as the proof data says, the weights as launched, every counter zero. -/
def Post (s : MemSt nD τ sig (Elt F)) : Prop :=
  (∀ c : Dev nD, (∀ w : Fin cfg0.W, s.mem ((cfg0.win w).arr.view.loc (c : Thread nD τ)) = finalA m c w)
    ∧ s.mem ((c.tc : Thread nD τ).loc main_arg1) = m ((c.tc : Thread nD τ).loc main_arg1)) ∧ s.sem = fun _ => 0

set_option maxRecDepth 8000 in
/-- The kernel terminates on every schedule, for any float values and any launch memory with zero counters, in a state of `Post`. -/
theorem run_main : θ_run defs (onTc (τ := τ) (main (F := F))) (s₀ m ρ) (fun r => Post m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb _ _ _) $$ HX
      icases HX' with ⟨HX, -⟩
      imod (show BI.own (((Emb.inl : Emb UB (UB × Counters)).trans embR) (initOf cells tokens)) ⊢ (|==> bigSep Finset.univ (G m) : sProp 𝕄) from fund m) $$ HX with HG
      imodintro
      isplitl [HP] <;> iassumption)
    (hglob := glob m)
    (hA := fun _ _ => rfl) (hpf := fun _ k => k.elim0)
    (X := start m) (Y := ending m) (Z := fun _ => iprop(emp))
    (hX := start_intro m ρ) (hin := phi_intro m) (hout := phi_exit m)
    (QY := Ended m) (hY := ending_read m)
    (hQ := fun _ h hs => ⟨fun c => ⟨fun w => (h c).1 w, (h c).2.2.2⟩, sem_eq_zero hs fun c => (h c).2.2.1⟩)

/-- The left operand's array is unchanged. -/
theorem finalA_x (c : Dev nD) : finalA m c (0 : Fin 2) = m ((c.tc : Thread nD τ).loc main_arg0) :=
  (dats (F := F) m 0 c).arrAt_in (0 : Fin 2) rfl _

end Cert.A2A
-- ==== Proof.Scalar.lean ====
/-
The arithmetic of the extended reals that the value claims need: the kernel's silu against the host's, the clip where it does nothing.
-/
module

public import Idealize.ShloMosaic.Lib.IdealHost
public import Idealize.ShloMosaic.PureOps.Ideal.Laws
public import Idealize.ShloMosaic.Lib.MatmulPlain
public import Idealize.ShloMosaic.Lib.StackMember

@[expose] public section

noncomputable section

namespace Cert.A2A.Val

open Idealize.ShloMosaic
open Idealize.ShloMosaic.ValueIdx
open scoped BigOperators

/-- Silu as the host writes it: a number over one plus the exponential of its negation. -/
def silu (y : EReal) : EReal := Ideal.div y (1 + Ideal.exp (-y))

/-- An exponential is not negative. -/
theorem exp_nonneg (y : EReal) : 0 ≤ Ideal.exp y := by
  induction y with
  | bot => exact le_refl _
  | top => exact le_top
  | coe r => exact EReal.coe_nonneg.mpr (Real.exp_pos r).le

/-- Silu's divisor is not zero. -/
theorem divisor_ne_zero (y : EReal) : 1 + Ideal.exp y ≠ 0 := fun h => by
  have h1 : (1 : EReal) ≤ 1 + Ideal.exp y := le_add_of_nonneg_right (exp_nonneg y)
  rw [h] at h1
  exact absurd h1 (not_le.mpr zero_lt_one)

/-- Silu as the kernel writes it, a number times its logistic, is the same. -/
theorem mul_logistic (y : EReal) : y * Ideal.logistic y = silu y := Ideal.mul_one_div (divisor_ne_zero (-y))

/-- The pattern of the upper end of the clip is sixty, -/
theorem ofBits_sixty : Ideal.ofBits .f32 0x42700000#32 = ((60 : ℝ) : EReal) := by
  simp [Ideal.ofBits, Ideal.ieee, -EReal.coe_mul]; norm_num

/-- and of the lower end minus sixty. -/
theorem ofBits_neg_sixty : Ideal.ofBits .f32 0xC2700000#32 = ((-60 : ℝ) : EReal) := by
  simp [Ideal.ofBits, Ideal.ieee, -EReal.coe_mul, -EReal.coe_neg]; norm_num

/-- A number of magnitude at most sixty is its own clip to the interval. -/
theorem clip_eq (y : EReal) (h : Ideal.cmp .ole (max y (-y)) (Ideal.ofBits .f32 0x42700000#32) = 1#1) :
    min (Ideal.ofBits .f32 0x42700000#32) (max (Ideal.ofBits .f32 0xC2700000#32) y) = y := by
  have h' : max y (-y) ≤ Ideal.ofBits .f32 0x42700000#32 := by
    by_contra hn
    have h0 : Ideal.cmp .ole (max y (-y)) (Ideal.ofBits .f32 0x42700000#32) = 0#1 :=
      congrArg BitVec.ofBool (decide_eq_false hn)
    rw [h0] at h; exact absurd h (by decide)
  rw [ofBits_sixty] at h' ⊢
  rw [ofBits_neg_sixty]
  have h1 : ((-60 : ℝ) : EReal) ≤ y := by
    have := EReal.neg_le_neg_iff.mpr ((le_max_right _ _).trans h')
    rwa [neg_neg, ← EReal.coe_neg] at this
  rw [max_eq_right h1, min_eq_right ((le_max_left _ _).trans h')]

/-- The product of the two operands, index by index. -/
def prod (X : (⟨2, ![8192, 8192]⟩ : Shape).Idx → EReal) (W : (⟨2, ![8192, 4096]⟩ : Shape).Idx → EReal) :
    (⟨2, ![8192, 4096]⟩ : Shape).Idx → EReal := fun i =>
  ∑ k : Fin 8192, X (ix2 (n0 := 8192) (n1 := 8192) (i 0) k) * W (ix2 (n0 := 8192) (n1 := 4096) k (i 1))

/-- The host's product is it. -/
theorem host_prod (X : FVec Ideal ⟨2, ![8192, 8192]⟩ .f32) (W : FVec Ideal ⟨2, ![8192, 4096]⟩ .f32) :
    Host.dotGeneral (DotDims.plain 8192 8192 4096) none X W = prod X W := by
  funext i
  obtain ⟨a, b, rfl⟩ : ∃ (a : Fin 8192) (b : Fin 4096), i = ix2 a b := ⟨i 0, i 1, eq_ix2 i⟩
  exact Idealize.ShloMosaic.StackMember.dotGeneral_plain_apply none X W a b

end Cert.A2A.Val

end
-- ==== Proof.Value.lean ====
/-
The kernel's result array after the run, and over the extended reals: each device's columns of silu of the product.
-/
module

public import proofs.«01_k».proof.Proof.Run
public import proofs.«01_k».proof.Proof.Scalar

@[expose] public section

noncomputable section

namespace Cert.A2A

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Cert.A2A.Val
open scoped BigOperators

/-! ## The kernel's result array after the run -/

/-- The result array's one block is the whole array: read through it, the array is itself, -/
theorem read_res (c : Dev nD) (f : Buf (Elt F) ((c : Thread nD τ).loc main_v1)) : (win0_1.blk t₀).view.read (Elt F) f = f :=
  Memref.read_access_unit_zero (Elt F) main_v1
    (show (fun a => (win0_1.index t₀) a * main_v1.ty.shape.size a) = fun _ => 0 from funext fun a => by fin_cases a <;> decide)
    (fun a => by fin_cases a <;> decide) f

/-- and the left operand's likewise: a device's staged rows are its rows as launched. -/
theorem xstg_eq (c : Dev nD) : xstg m c = m ((c : Thread nD τ).loc main_arg0) :=
  Memref.read_access_unit_zero (Elt F) main_arg0
    (show (fun a => (win0_0.index t₀) a * main_arg0.ty.shape.size a) = fun _ => 0 from funext fun a => by fin_cases a <;> decide)
    (fun a => by fin_cases a <;> decide) _

/-- The result is written back at the point. -/
theorem flush_1 : (cfg0.win (1 : Fin 2)).flush t₀ = true := rfl

/-- After the run the result array holds `outAt`. -/
theorem finalA_out (c : Dev nD) : finalA m c (1 : Fin 2) = outAt m c := by
  have hw : ((cfg0.win (1 : Fin 2)).blk t₀).view.read (Elt F) (finalA m c (1 : Fin 2)) = (dats m 0 c).flushed (1 : Fin 2) t₀ := by
    unfold finalA
    rw [show cfg0.N = t₀.val + 1 from cfg0_N, (dats m 0 c).arrAt_succ (1 : Fin 2) t₀, flush_1, if_pos rfl]
    exact View.read_write_univ _ _
  exact (read_res c _).symm.trans (hw.trans (funext fun _ => rfl))

/-! ## The result at an index, over the extended reals -/

set_option maxRecDepth 20000 in
/-- The computed slab at an index: silu of the sum of the products of the row and the column. -/
theorem slab_apply (x : Vec Ideal S256x8192 .f32) (w : Vec Ideal S1x8192x512 .f32) (z : Fin 1) (a : Fin 256) (b : Fin 512) :
    k0_pay1 x w (ix3 z a b) = silu (∑ k : Fin 8192, x (ix2 a k) * w (ix3 (0 : Fin 1) k b)) := by
  unfold k0_pay1
  rw [shapeCast_self]
  refine (shapeCast_ab_1ab_apply _ _ z a b).trans ?_
  have hd : dot_S256x8192_S8192x512_S256x512_1_0_0_1_n_n = DotDims.plain 256 8192 512 := rfl
  have hm : matmul (F := Ideal) (φ₁ := .f32) (φ₂ := .f32) dot_S256x8192_S8192x512_S256x512_1_0_0_1_n_n none x (shapeCast S8192x512 w shapeCasts_S1x8192x512_S8192x512)
      (constant (F := Ideal) S256x512 .f32 0x00000000#32) (ix2 a b) = ∑ k : Fin 8192, x (ix2 a k) * w (ix3 (0 : Fin 1) k b) := by
    rw [hd]
    refine (Ideal.matmul_plain_apply none x _ _ a b).trans ?_
    rw [show constant (F := Ideal) S256x512 .f32 0x00000000#32 (ix2 a b) = 0 from Ideal.ofBits_zero_f32, zero_add]
    exact Finset.sum_congr rfl fun k _ => congrArg (x (ix2 a k) * ·) (shapeCast_1ab_ab_apply w _ k b)
  exact (congrArg (fun y : EReal => y * Ideal.logistic y) hm).trans (mul_logistic _)

/-- The whole result: silu of the product. -/
def result (X : (⟨2, ![8192, 8192]⟩ : Shape).Idx → EReal) (W : S8192x4096.Idx → EReal) : S8192x4096.Idx → EReal := fun i => silu (prod X W i)

set_option maxRecDepth 20000 in
/-- When each device holds its rows of the left operand and all weights, device `t`'s result is its columns of the whole result. -/
theorem outAt_eq (m : (ℓ : Loc nD τ sig) → Buf (Elt Ideal) ℓ) (X : (⟨2, ![8192, 8192]⟩ : Shape).Idx → EReal) (W : S8192x4096.Idx → EReal)
    (hX : ∀ c : Dev nD, m ((c.tc : Thread nD τ).loc main_arg0) = Layout.block ⟨2, ![256, 8192]⟩ ⟨2, ![8192, 8192]⟩ 0 32 c X)
    (hW : ∀ c : Dev nD, m ((c.tc : Thread nD τ).loc main_arg1) = W) (t : Dev nD) :
    outAt m t = Layout.block ⟨2, ![8192, 128]⟩ ⟨2, ![8192, 4096]⟩ 1 32 t (result X W) := by
  funext i
  have hi0 : (i 0).val < 8192 := (i 0).isLt
  have hi1 : (i 1).val < 128 := (i 1).isLt
  have ht : t.val < 32 := t.isLt
  unfold outAt
  refine (slab_apply _ _ _ _ _).trans ?_
  show silu _ = silu (prod X W _)
  refine congrArg silu (Finset.sum_congr rfl fun k _ => congrArg₂ (· * ·) ?_ ?_)
  · rw [xstg_eq, hX]
    refine congrArg X (funext fun a => Fin.ext ?_)
    match a with
    | ⟨0, _⟩ => show (i 0).val / 256 * 256 + (i 0).val % 256 = (i 0).val; omega
    | ⟨1, _⟩ => rfl
  · unfold wslab wArr
    rw [hW]
    refine congrArg W (funext fun a => Fin.ext ?_)
    match a with
    | ⟨0, _⟩ => rfl
    | ⟨1, _⟩ => show 512 * (t.val / 4) + (128 * (t.val % 4) + (i 1).val) = t.val * 128 + (i 1).val; omega

end Cert.A2A
-- ==== Proof.Refs.lean ====
/-
The references' result terms over the extended reals: silu of the product, with the clip where its mask is set.
-/
module

public import proofs.«01_k».proof.Proof.Scalar
public import proofs.«01_k».proof.Proof.Gen.ReferenceIdeal
public import proofs.«01_k».proof.Proof.Gen.SiluIdeal
public import proofs.«01_k».proof.Proof.Gen.On_unclipped

@[expose] public section

noncomputable section

namespace Cert.A2A.Val

open Idealize.ShloMosaic

variable (X : FVec Ideal ⟨2, ![8192, 8192]⟩ .f32) (W : FVec Ideal ⟨2, ![8192, 4096]⟩ .f32)

/-- The constant one of the host programs. -/
theorem one_f32 : FloatOps.ofBits (F := Ideal) .f32 0x3F800000#32 = (1 : EReal) := Ideal.ofBits_one_f32

section
open Cert.SiluIdeal Cert.SiluIdeal.Gen

set_option maxRecDepth 20000 in
/-- The unclipped reference's result is silu of the product. -/
theorem silu_term : Host.divf (F := Ideal) (Host.dotGeneral dot_S8192x8192_S8192x4096_S8192x4096_1_0_0_1_n_n none X W)
      (addf (broadcastInDim S8192x4096 ![] bcast_S_S8192x4096 (constant S_ .f32 0x3F800000#32))
        (Host.exp (Host.negf (Host.dotGeneral dot_S8192x8192_S8192x4096_S8192x4096_1_0_0_1_n_n none X W))))
    = fun i => silu (prod X W i) := by
  have hd : Host.dotGeneral dot_S8192x8192_S8192x4096_S8192x4096_1_0_0_1_n_n none X W = prod X W := host_prod X W
  rw [hd]
  funext i
  generalize prod X W = Y
  show Ideal.div (Y i) (FloatOps.ofBits (F := Ideal) .f32 0x3F800000#32 + Ideal.exp (-(Y i))) = _
  rw [one_f32]; rfl
end

section
open Cert.On_unclipped Cert.On_unclipped.Gen

set_option maxRecDepth 20000 in
/-- The mask at an index: the product there is of magnitude at most sixty. -/
theorem mask_apply (i : (⟨2, ![8192, 4096]⟩ : Shape).Idx) :
    Cert.On_unclipped.fn (F := Ideal) X W i = Ideal.cmp .ole (max (prod X W i) (-(prod X W i))) (Ideal.ofBits .f32 0x42700000#32) := by
  have hd : Host.dotGeneral dot_S8192x8192_S8192x4096_S8192x4096_1_0_0_1_n_n none X W = prod X W := host_prod X W
  unfold Cert.On_unclipped.fn
  show cmpf .ole (Host.absf (Host.dotGeneral dot_S8192x8192_S8192x4096_S8192x4096_1_0_0_1_n_n none X W)) _ i = _
  rw [hd]
  generalize prod X W = Y
  rfl
end

section
open Cert.ReferenceIdeal Cert.ReferenceIdeal.Gen

set_option maxRecDepth 20000 in
/-- The reference's result is silu of the product where the mask is set. -/
theorem reference_term (i : (⟨2, ![8192, 4096]⟩ : Shape).Idx) (h : Cert.On_unclipped.fn (F := Ideal) X W i = 1#1) :
    Host.divf (F := Ideal) (Host.dotGeneral dot_S8192x8192_S8192x4096_S8192x4096_1_0_0_1_n_n none X W)
      (addf (broadcastInDim S8192x4096 ![] bcast_S_S8192x4096 (constant S_ .f32 0x3F800000#32))
        (Host.exp (Host.negf (minimumf (broadcastInDim S8192x4096 ![] bcast_S_S8192x4096 (id (constant S_ .f32 0x42700000#32)))
          (maximumf (broadcastInDim S8192x4096 ![] bcast_S_S8192x4096 (id (constant S_ .f32 0xC2700000#32)))
            (Host.dotGeneral dot_S8192x8192_S8192x4096_S8192x4096_1_0_0_1_n_n none X W)))))) i
    = silu (prod X W i) := by
  have hd : Host.dotGeneral dot_S8192x8192_S8192x4096_S8192x4096_1_0_0_1_n_n none X W = prod X W := host_prod X W
  rw [hd]
  rw [mask_apply] at h
  generalize prod X W = Y at h ⊢
  show Ideal.div (Y i) (FloatOps.ofBits (F := Ideal) .f32 0x3F800000#32 + Ideal.exp (-(min (Ideal.ofBits .f32 0x42700000#32)
    (max (Ideal.ofBits .f32 0xC2700000#32) (Y i))))) = _
  rw [clip_eq _ h, one_f32]; rfl
end

end Cert.A2A.Val

end
-- ==== Proof.Same.lean ====
/-
The kernel as compiled and the kernel over the extended reals have one text: their body tables are equal.
-/
module

public import proofs.«01_k».proof.Proof.Gen.Kernel
public import proofs.«01_k».proof.Proof.Gen.KernelIdeal

@[expose] public section

noncomputable section

namespace Cert.A2A

open Idealize.ShloMosaic

variable {F : FTy → Type} [FloatOps F]

attribute [local instance] Cert.Kernel.Gen.facts Cert.KernelIdeal.Gen.facts

/-- The two kernels' own body tables are equal, label by label, -/
theorem defs₀_same : Cert.Kernel.defs₀ (F := F) = Cert.KernelIdeal.defs₀ (F := F) :=
  congrArg Defs.onTc (funext fun l => funext fun a => by
    match l, a with
    | 0, (t, s) => rfl
    | ⟨_ + 1, h⟩, _ => exact absurd h (Nat.not_lt.2 (Nat.le_add_left _ _)))

/-- and so are the tables with the pipeline's labels. -/
theorem defs_same : Cert.Kernel.defs (F := F) = Cert.KernelIdeal.defs (F := F) :=
  congrArg (Pipeline.defs (Cert.KernelIdeal.pcfgs (F := F))) defs₀_same

end Cert.A2A

end
-- ==== Proof.lean ====
/-
The claims, assembled: the kernel's run is `Cert.A2A.run_main`, the references' runs are the generated ones.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.SiluIdeal
public import proofs.«01_k».proof.Proof.Gen.On_unclipped
public import proofs.«01_k».proof.Proof.Gen.ReferenceIdeal.Run
public import proofs.«01_k».proof.Proof.Gen.SiluIdeal.Run
public import proofs.«01_k».proof.Proof.Value
public import proofs.«01_k».proof.Proof.Refs
public import proofs.«01_k».proof.Proof.Same

@[expose] public section

noncomputable section

namespace Cert.Proof

open Idealize.ShloMosaic Idealize.SL.Sem Cert.A2A Cert.A2A.Val

/-- The kernel terminates on every schedule at any float values, arguments unchanged, counters at zero. -/
theorem kernel_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨((h.1 c).1 0).trans (finalA_x m c), (h.1 c).2⟩, h.2⟩) (run_main (F := F) m g)

/-- So the kernel as compiled, whose text is the same, -/
theorem quiescent_kernel : Cert.quiescent_Kernel (hKernel := Cert.Kernel.Gen.facts) := fun m g _ =>
  (congrArg (fun d => (θ_run d (onTc (τ := Cert.KernelIdeal.τ) (Cert.KernelIdeal.main (F := Bits))) ⟨m, fun _ => 0, g⟩) _) (defs_same (F := Bits))).mpr
    (kernel_frame (F := Bits) m g)

/-- and the kernel over the extended reals. -/
theorem quiescent_kernelIdeal : Cert.quiescent_KernelIdeal (hKernelIdeal := Cert.KernelIdeal.Gen.facts) := fun m g _ => kernel_frame (F := Ideal) m g

/-- The reference over the extended reals terminates, arguments unchanged, counters at zero. -/
theorem quiescent_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- So does the unclipped reference. -/
theorem quiescent_silu : Cert.quiescent_SiluIdeal (hSiluIdeal := Cert.SiluIdeal.Gen.facts) := fun m g _ =>
  (θ_run Cert.SiluIdeal.defs _ _).mono (fun r h => ⟨fun c => (h c).2, sem_eq_zero_of_no_sems (by decide) r.2⟩)
    (Cert.SiluIdeal.Value.run (F := Ideal) m g)

/-- Each device's result is its columns of the unclipped reference's. -/
theorem algebraic_silu : Cert.algebraic_KernelIdeal_SiluIdeal (hKernelIdeal := Cert.KernelIdeal.Gen.facts) (hSiluIdeal := Cert.SiluIdeal.Gen.facts) := by
  intro m g m' g' _ hag
  refine ⟨_, ?_, (θ_run Cert.SiluIdeal.defs _ _).mono (fun _ h => ⟨(h 0).1.trans (silu_term _ _), (h 0).2⟩) (Cert.SiluIdeal.Value.run (F := Ideal) m' g')⟩
  exact (θ_run Cert.KernelIdeal.defs _ _).mono (fun _ h c =>
      ⟨((h.1 c).1 1).trans ((finalA_out m c).trans (outAt_eq m _ _ (fun d => (hag d).1) (fun d => (hag d).2) c)),
        ((h.1 c).1 0).trans (finalA_x m c), (h.1 c).2⟩)
    (run_main (F := Ideal) m g)

/-- Each device's result is its columns of the reference's where the clip does nothing. -/
theorem algebraic_reference : Cert.algebraic_KernelIdeal_ReferenceIdeal_on_unclipped (hKernelIdeal := Cert.KernelIdeal.Gen.facts)
    (hReferenceIdeal := Cert.ReferenceIdeal.Gen.facts) (hOn_unclipped := Cert.On_unclipped.Gen.facts) := by
  intro m g m' g' _ hag
  refine ⟨_, ?_, (θ_run Cert.ReferenceIdeal.defs _ _).mono
    (fun _ h => ⟨fun i hi => (congrFun (h 0).1 i).trans (reference_term _ _ i hi), (h 0).2⟩) (Cert.ReferenceIdeal.Value.run (F := Ideal) m' g')⟩
  exact (θ_run Cert.KernelIdeal.defs _ _).mono (fun _ h c =>
      ⟨fun i _ => congrFun (((h.1 c).1 1).trans ((finalA_out m c).trans (outAt_eq m _ _ (fun d => (hag d).1) (fun d => (hag d).2) c))) i,
        ((h.1 c).1 0).trans (finalA_x m c), (h.1 c).2⟩)
    (run_main (F := Ideal) m g)

/-- Everything claimed. -/
theorem claim : Cert.Claim :=
  ⟨Cert.Kernel.Gen.facts, Cert.KernelIdeal.Gen.facts, Cert.ReferenceIdeal.Gen.facts, Cert.SiluIdeal.Gen.facts, Cert.On_unclipped.Gen.facts,
    quiescent_kernel, quiescent_kernelIdeal, quiescent_reference, quiescent_silu, trivial, algebraic_silu, algebraic_reference⟩

end Cert.Proof

end
